-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gains [hPre_finite_gains : Cert.Pre_finite_gains.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gains.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gains [hPre_finite_gains : Cert.Pre_finite_gains.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gains.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_gains [hKernelIdeal : Cert.KernelIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gains m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_gains [hReferenceIdeal : Cert.ReferenceIdeal.Facts] [hPre_finite_gains : Cert.Pre_finite_gains.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gains m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def preserves_Kernel_KernelIdeal : Prop :=
  IdealRules.named_const.Statement Cert.KernelIdeal.κ "inv_sqrt_d" .f32 0x3DB504F3#32 (((Real.sqrt 128)⁻¹ : ℝ) : EReal)

def algebraic_KernelIdeal_ReferenceIdeal_pre_finite_gains [hKernelIdeal : Cert.KernelIdeal.Facts] [hReferenceIdeal : Cert.ReferenceIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gains m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v20_0)) (v1 : (c : Dev Cert.Kernel3Ideal.nD) → Buf (Elt Ideal) ((c.tc : Thread Cert.Kernel3Ideal.nD Cert.Kernel3Ideal.τ).loc Cert.Kernel3Ideal.main_v20_1)) (v2 : (c : Dev Cert.Kernel3Ideal.nD) → Buf (Elt Ideal) ((c.tc : Thread Cert.Kernel3Ideal.nD Cert.Kernel3Ideal.τ).loc Cert.Kernel3Ideal.main_v20_2)) (v3 : (c : Dev Cert.Kernel3Ideal.nD) → Buf (Elt Ideal) ((c.tc : Thread Cert.Kernel3Ideal.nD Cert.Kernel3Ideal.τ).loc Cert.Kernel3Ideal.main_v20_3)) (v4 : (c : Dev Cert.Kernel3Ideal.nD) → Buf (Elt Ideal) ((c.tc : Thread Cert.Kernel3Ideal.nD Cert.Kernel3Ideal.τ).loc Cert.Kernel3Ideal.main_v20_4)) (v5 : (c : Dev Cert.Kernel3Ideal.nD) → Buf (Elt Ideal) ((c.tc : Thread Cert.Kernel3Ideal.nD Cert.Kernel3Ideal.τ).loc Cert.Kernel3Ideal.main_v20_5)) (v6 : (c : Dev Cert.Kernel3Ideal.nD) → Buf (Elt Ideal) ((c.tc : Thread Cert.Kernel3Ideal.nD Cert.Kernel3Ideal.τ).loc Cert.Kernel3Ideal.main_v20_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20_0) = v0 c
          ∧ r.2.mem ((c.tc : Thread Cert.Kernel3Ideal.nD Cert.Kernel3Ideal.τ).loc Cert.Kernel3Ideal.main_v20_1) = v1 c
          ∧ r.2.mem ((c.tc : Thread Cert.Kernel3Ideal.nD Cert.Kernel3Ideal.τ).loc Cert.Kernel3Ideal.main_v20_2) = v2 c
          ∧ r.2.mem ((c.tc : Thread Cert.Kernel3Ideal.nD Cert.Kernel3Ideal.τ).loc Cert.Kernel3Ideal.main_v20_3) = v3 c
          ∧ r.2.mem ((c.tc : Thread Cert.Kernel3Ideal.nD Cert.Kernel3Ideal.τ).loc Cert.Kernel3Ideal.main_v20_4) = v4 c
          ∧ r.2.mem ((c.tc : Thread Cert.Kernel3Ideal.nD Cert.Kernel3Ideal.τ).loc Cert.Kernel3Ideal.main_v20_5) = v5 c
          ∧ r.2.mem ((c.tc : Thread Cert.Kernel3Ideal.nD Cert.Kernel3Ideal.τ).loc Cert.Kernel3Ideal.main_v20_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v55) = v0 c
          ∧ r.2.mem ((c.tc : Thread Cert.Reference3Ideal.nD Cert.Reference3Ideal.τ).loc Cert.Reference3Ideal.main_v58) = v1 c
          ∧ r.2.mem ((c.tc : Thread Cert.Reference3Ideal.nD Cert.Reference3Ideal.τ).loc Cert.Reference3Ideal.main_v59) = v2 c
          ∧ r.2.mem ((c.tc : Thread Cert.Reference3Ideal.nD Cert.Reference3Ideal.τ).loc Cert.Reference3Ideal.main_v61) = v3 c
          ∧ r.2.mem ((c.tc : Thread Cert.Reference3Ideal.nD Cert.Reference3Ideal.τ).loc Cert.Reference3Ideal.main_v64) = v4 c
          ∧ r.2.mem ((c.tc : Thread Cert.Reference3Ideal.nD Cert.Reference3Ideal.τ).loc Cert.Reference3Ideal.main_v65) = v5 c
          ∧ r.2.mem ((c.tc : Thread Cert.Reference3Ideal.nD Cert.Reference3Ideal.τ).loc Cert.Reference3Ideal.main_v19) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hPre_finite_gains : Cert.Pre_finite_gains.Facts),
    quiescent_Kernel (hKernel := hKernel)
    ∧ quiescent_KernelIdeal (hKernelIdeal := hKernelIdeal)
    ∧ quiescent_KernelIdeal_pre_finite_gains (hKernelIdeal := hKernelIdeal) (hPre_finite_gains := hPre_finite_gains)
    ∧ quiescent_ReferenceIdeal (hReferenceIdeal := hReferenceIdeal)
    ∧ quiescent_ReferenceIdeal_pre_finite_gains (hReferenceIdeal := hReferenceIdeal) (hPre_finite_gains := hPre_finite_gains)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ preserves_Kernel_KernelIdeal
    ∧ algebraic_KernelIdeal_ReferenceIdeal_pre_finite_gains (hKernelIdeal := hKernelIdeal) (hReferenceIdeal := hReferenceIdeal) (hPre_finite_gains := hPre_finite_gains)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_gains.lean ====
abbrev S8x2048x1024 : Shape := ⟨3, ![8, 2048, 1024]⟩
abbrev S8x2048x512 : Shape := ⟨3, ![8, 2048, 512]⟩
abbrev S8x256x1024 : Shape := ⟨3, ![8, 256, 1024]⟩
abbrev S1024x5832 : Shape := ⟨2, ![1024, 5832]⟩
abbrev S1024 : Shape := ⟨1, ![1024]⟩
abbrev S1024x1024 : Shape := ⟨2, ![1024, 1024]⟩
abbrev S128 : Shape := ⟨1, ![128]⟩
abbrev S512x1024 : Shape := ⟨2, ![512, 1024]⟩
abbrev S_ : Shape := ⟨0, ![]⟩

class Facts : Prop where
  bcast_S_S128 : S_.BroadcastsInDim S128 (![] : Fin 0 → Fin S128.rank)

variable [Facts]

def fn {F : FTy → Type} [FloatOps F] (main_arg0 : FVec F S8x2048x1024 .f32) (main_arg1 : FVec F S8x2048x512 .bf16) (main_arg2 : FVec F S8x2048x512 .bf16) (main_arg3 : FVec F S8x256x1024 .f32) (main_arg4 : FVec F S1024x5832 .f32) (main_arg5 : FVec F S1024 .f32) (main_arg6 : FVec F S1024 .f32) (main_arg7 : FVec F S1024x1024 .f32) (main_arg8 : FVec F S128 .f32) (main_arg9 : FVec F S128 .f32) (main_arg10 : FVec F S512x1024 .f32) (main_arg11 : FVec F S512x1024 .f32) (main_arg12 : FVec F S512x1024 .f32) (main_arg13 : FVec F S1024x1024 .f32) : IVec S128 1 :=
  let main_v0 : FVec F S128 .f32 := Host.absf main_arg8
  let main_cst : FVec F S_ .f32 := constant S_ .f32 0x7F800000#32
  let main_v1 : FVec F S128 .f32 := broadcastInDim S128 ![] bcast_S_S128 main_cst
  let main_v2 : IVec S128 1 := cmpf .olt main_v0 main_v1
  let main_v3 : FVec F S128 .f32 := Host.absf main_arg9
  let main_cst_0 : FVec F S_ .f32 := constant S_ .f32 0x7F800000#32
  let main_v4 : FVec F S128 .f32 := broadcastInDim S128 ![] bcast_S_S128 main_cst_0
  let main_v5 : IVec S128 1 := cmpf .olt main_v3 main_v4
  let main_v6 : IVec S128 1 := andi main_v2 main_v5
  main_v6
-- ==== Kernel.lean ====
abbrev S8x2048x1024 : Shape := ⟨3, ![8, 2048, 1024]⟩
abbrev S8x2048x512 : Shape := ⟨3, ![8, 2048, 512]⟩
abbrev S8x256x1024 : Shape := ⟨3, ![8, 256, 1024]⟩
abbrev S1024x5832 : Shape := ⟨2, ![1024, 5832]⟩
abbrev S1024 : Shape := ⟨1, ![1024]⟩
abbrev S1024x1024 : Shape := ⟨2, ![1024, 1024]⟩
abbrev S128 : Shape := ⟨1, ![128]⟩
abbrev S512x1024 : Shape := ⟨2, ![512, 1024]⟩
abbrev S5832x1024 : Shape := ⟨2, ![5832, 1024]⟩
abbrev S3072x1024 : Shape := ⟨2, ![3072, 1024]⟩
abbrev S1x1024 : Shape := ⟨2, ![1, 1024]⟩
abbrev S1x128 : Shape := ⟨2, ![1, 128]⟩
abbrev S1x1024x1024 : Shape := ⟨3, ![1, 1024, 1024]⟩
abbrev S1x1024x512 : Shape := ⟨3, ![1, 1024, 512]⟩
abbrev S1x256x1024 : Shape := ⟨3, ![1, 256, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S1024x1 : Shape := ⟨2, ![1024, 1]⟩
abbrev S1024x512 : Shape := ⟨2, ![1024, 512]⟩
abbrev S1024x128 : Shape := ⟨2, ![1024, 128]⟩
abbrev S1024x256 : Shape := ⟨2, ![1024, 256]⟩

abbrev nBuf : Space → Nat
  | .hbm => 29
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S8x256x1024, .f32⟩
  | .hbm, ⟨4, _⟩ => ⟨S1024x5832, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S128, .f32⟩
  | .hbm, ⟨9, _⟩ => ⟨S128, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S1024x1024, .f32⟩
  | .hbm, ⟨14, _⟩ => ⟨S5832x1024, .f32⟩
  | .hbm, ⟨15, _⟩ => ⟨S512x1024, .f32⟩
  | .hbm, ⟨16, _⟩ => ⟨S512x1024, .bf16⟩
  | .hbm, ⟨17, _⟩ => ⟨S3072x1024, .f32⟩
  | .hbm, ⟨18, _⟩ => ⟨S3072x1024, .bf16⟩
  | .hbm, ⟨19, _⟩ => ⟨S1x1024, .f32⟩
  | .hbm, ⟨20, _⟩ => ⟨S1x128, .f32⟩
  | .hbm, ⟨21, _⟩ => ⟨S512x1024, .bf16⟩
  | .hbm, ⟨22, _⟩ => ⟨S512x1024, .bf16⟩
  | .hbm, ⟨23, _⟩ => ⟨S512x1024, .bf16⟩
  | .hbm, ⟨24, _⟩ => ⟨S1024x1024, .bf16⟩
  | .hbm, ⟨25, _⟩ => ⟨S1x1024, .f32⟩
  | .hbm, ⟨26, _⟩ => ⟨S1024x1024, .bf16⟩
  | .hbm, ⟨27, _⟩ => ⟨S1x128, .f32⟩
  | .hbm, ⟨28, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x256x1024, .f32⟩
  | .local _ .vmem, ⟨7, _⟩ => ⟨S1x256x1024, .f32⟩
  | .local _ .vmem, ⟨8, _⟩ => ⟨S1x1024, .f32⟩
  | .local _ .vmem, ⟨9, _⟩ => ⟨S3072x1024, .bf16⟩
  | .local _ .vmem, ⟨10, _⟩ => ⟨S512x1024, .bf16⟩
  | .local _ .vmem, ⟨11, _⟩ => ⟨S1x128, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x1024, .f32⟩
  | .local _ .vmem, ⟨17, _⟩ => ⟨S1024x1024, .bf16⟩
  | .local _ .vmem, ⟨18, _⟩ => ⟨S1x128, .f32⟩
  | .local _ .vmem, ⟨19, _⟩ => ⟨S1x1024x1024, .f32⟩
  | .local _ .vmem, ⟨20, _⟩ => ⟨S1x1024x1024, .f32⟩
  | .local _ .vmem, ⟨21, _⟩ => ⟨S256x512, .bf16⟩
  | .local _ .vmem, ⟨22, _⟩ => ⟨S256x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3072x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== KernelIdeal.lean ====
variable {F : FTy → Type} [FloatOps F] [Named F]
def κ : String → Option EReal := fun
  | "inv_sqrt_d" => some (((Real.sqrt 128)⁻¹ : ℝ) : EReal)
  | _ => none
-- ==== ReferenceIdeal.lean ====
abbrev S8x2048x1024 : Shape := ⟨3, ![8, 2048, 1024]⟩
abbrev S8x2048x512 : Shape := ⟨3, ![8, 2048, 512]⟩
abbrev S8x256x1024 : Shape := ⟨3, ![8, 256, 1024]⟩
abbrev S1024x5832 : Shape := ⟨2, ![1024, 5832]⟩
abbrev S1024 : Shape := ⟨1, ![1024]⟩
abbrev S1024x1024 : Shape := ⟨2, ![1024, 1024]⟩
abbrev S128 : Shape := ⟨1, ![128]⟩
abbrev S512x1024 : Shape := ⟨2, ![512, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5832 : Shape := ⟨3, ![8, 2048, 5832]⟩
abbrev S8x2048x3584 : Shape := ⟨3, ![8, 2048, 3584]⟩
abbrev S8x2048x3072 : Shape := ⟨3, ![8, 2048, 3072]⟩
abbrev S8x256 : Shape := ⟨2, ![8, 256]⟩
abbrev S8x256x1 : Shape := ⟨3, ![8, 256, 1]⟩
abbrev S8x256x512 : Shape := ⟨3, ![8, 256, 512]⟩
abbrev S8x2048x4x128 : Shape := ⟨4, ![8, 2048, 4, 128]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩
abbrev S8x256x4x128 : Shape := ⟨4, ![8, 256, 4, 128]⟩
abbrev S8x256x4 : Shape := ⟨3, ![8, 256, 4]⟩
abbrev S8x256x4x1 : Shape := ⟨4, ![8, 256, 4, 1]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩

abbrev nBuf : Space → Nat
  | .hbm => 133
  | .vmem => 0
  | .smem => 0
  | _ => 0

abbrev hbmTy0_0 (i : Nat) : BufTy := match i % 128 with
  | 0 => ⟨S8x2048x1024, .f32⟩
  | 1 => ⟨S8x2048x512, .bf16⟩
  | 2 => ⟨S8x2048x512, .bf16⟩
  | 3 => ⟨S8x256x1024, .f32⟩
  | 4 => ⟨S1024x5832, .f32⟩
  | 5 => ⟨S1024, .f32⟩
  | 6 => ⟨S1024, .f32⟩
  | 7 => ⟨S1024x1024, .f32⟩
  | 8 => ⟨S128, .f32⟩
  | 9 => ⟨S128, .f32⟩
  | 10 => ⟨S512x1024, .f32⟩
  | 11 => ⟨S512x1024, .f32⟩
  | 12 => ⟨S512x1024, .f32⟩
  | 13 => ⟨S1024x1024, .f32⟩
  | 14 => ⟨S8x2048x512, .f32⟩
  | 15 => ⟨S8x2048x512, .f32⟩
  | 16 => ⟨S8x2048x1024, .f32⟩
  | 17 => ⟨S_, .f32⟩
  | 18 => ⟨S8x2048, .f32⟩
  | 19 => ⟨S8x2048x1, .f32⟩
  | 20 => ⟨S_, .f32⟩
  | 21 => ⟨S8x2048x1, .f32⟩
  | 22 => ⟨S8x2048x1, .f32⟩
  | 23 => ⟨S_, .f32⟩
  | 24 => ⟨S8x2048x1, .f32⟩
  | 25 => ⟨S8x2048x1, .f32⟩
  | 26 => ⟨S8x2048x1, .f32⟩
  | 27 => ⟨S8x2048x1024, .f32⟩
  | 28 => ⟨S8x2048x1024, .f32⟩
  | 29 => ⟨S1x1x1024, .f32⟩
  | 30 => ⟨S8x2048x1024, .f32⟩
  | 31 => ⟨S8x2048x1024, .f32⟩
  | 32 => ⟨S8x2048x5832, .f32⟩
  | 33 => ⟨S8x2048x3584, .f32⟩
  | 34 => ⟨S8x2048x512, .f32⟩
  | 35 => ⟨S8x2048x3072, .f32⟩
  | 36 => ⟨S8x256x1024, .f32⟩
  | 37 => ⟨S_, .f32⟩
  | 38 => ⟨S8x256, .f32⟩
  | 39 => ⟨S8x256x1, .f32⟩
  | 40 => ⟨S_, .f32⟩
  | 41 => ⟨S8x256x1, .f32⟩
  | 42 => ⟨S8x256x1, .f32⟩
  | 43 => ⟨S_, .f32⟩
  | 44 => ⟨S8x256x1, .f32⟩
  | 45 => ⟨S8x256x1, .f32⟩
  | 46 => ⟨S8x256x1, .f32⟩
  | 47 => ⟨S8x256x1024, .f32⟩
  | 48 => ⟨S8x256x1024, .f32⟩
  | 49 => ⟨S1x1x1024, .f32⟩
  | 50 => ⟨S8x256x1024, .f32⟩
  | 51 => ⟨S8x256x1024, .f32⟩
  | 52 => ⟨S8x256x1024, .f32⟩
  | 53 => ⟨S8x256x512, .f32⟩
  | 54 => ⟨S8x256x512, .f32⟩
  | 55 => ⟨S8x2048x4x128, .f32⟩
  | 56 => ⟨S8x2048x4x128, .f32⟩
  | 57 => ⟨S_, .f32⟩
  | 58 => ⟨S8x2048x4, .f32⟩
  | 59 => ⟨S8x2048x4x1, .f32⟩
  | 60 => ⟨S_, .f32⟩
  | 61 => ⟨S8x2048x4x1, .f32⟩
  | 62 => ⟨S8x2048x4x1, .f32⟩
  | 63 => ⟨S_, .f32⟩
  | 64 => ⟨S8x2048x4x1, .f32⟩
  | 65 => ⟨S8x2048x4x1, .f32⟩
  | 66 => ⟨S8x2048x4x1, .f32⟩
  | 67 => ⟨S8x2048x4x128, .f32⟩
  | 68 => ⟨S8x2048x4x128, .f32⟩
  | 69 => ⟨S1x1x1x128, .f32⟩
  | 70 => ⟨S8x2048x4x128, .f32⟩
  | 71 => ⟨S8x2048x4x128, .f32⟩
  | 72 => ⟨S8x256x4x128, .f32⟩
  | 73 => ⟨S8x256x4x128, .f32⟩
  | 74 => ⟨S_, .f32⟩
  | 75 => ⟨S8x256x4, .f32⟩
  | 76 => ⟨S8x256x4x1, .f32⟩
  | 77 => ⟨S_, .f32⟩
  | 78 => ⟨S8x256x4x1, .f32⟩
  | 79 => ⟨S8x256x4x1, .f32⟩
  | 80 => ⟨S_, .f32⟩
  | 81 => ⟨S8x256x4x1, .f32⟩
  | 82 => ⟨S8x256x4x1, .f32⟩
  | 83 => ⟨S8x256x4x1, .f32⟩
  | 84 => ⟨S8x256x4x128, .f32⟩
  | 85 => ⟨S8x256x4x128, .f32⟩
  | 86 => ⟨S1x1x1x128, .f32⟩
  | 87 => ⟨S8x256x4x128, .f32⟩
  | 88 => ⟨S8x256x4x128, .f32⟩
  | 89 => ⟨S8x256x4x128, .f32⟩
  | 90 => ⟨S8x4x2048x256, .f32⟩
  | 91 => ⟨S_, .f32⟩
  | 92 => ⟨S_, .f32⟩
  | 93 => ⟨S8x4x2048x256, .f32⟩
  | 94 => ⟨S8x4x2048x256, .f32⟩
  | 95 => ⟨S_, .f32⟩
  | 96 => ⟨S8x4x2048, .f32⟩
  | 97 => ⟨S_, .f32⟩
  | 98 => ⟨S8x4x2048, .f32⟩
  | 99 => ⟨S8x4x2048, .f32⟩
  | 100 => ⟨S8x4x2048x1, .f32⟩
  | 101 => ⟨S8x4x2048x256, .f32⟩
  | 102 => ⟨S8x4x2048x256, .f32⟩
  | 103 => ⟨S8x4x2048x256, .f32⟩
  | 104 => ⟨S_, .f32⟩
  | 105 => ⟨S8x4x2048, .f32⟩
  | 106 => ⟨S8x4x2048x1, .f32⟩
  | 107 => ⟨S8x4x2048x256, .f32⟩
  | 108 => ⟨S8x4x2048x256, .f32⟩
  | 109 => ⟨S8x4x128x2048, .f32⟩
  | 110 => ⟨S8x2048x4x128, .f32⟩
  | 111 => ⟨S8x2048x512, .f32⟩
  | 112 => ⟨S8x2048x3072, .f32⟩
  | 113 => ⟨S8x2048x3072, .f32⟩
  | 114 => ⟨S_, .f32⟩
  | 115 => ⟨S8x2048x3072, .f32⟩
  | 116 => ⟨S8x2048x3072, .f32⟩
  | 117 => ⟨S_, .f32⟩
  | 118 => ⟨S8x2048x3072, .f32⟩
  | 119 => ⟨S8x2048x3072, .f32⟩
  | 120 => ⟨S8x2048x1024, .f32⟩
  | 121 => ⟨S8x2048x1024, .f32⟩
  | 122 => ⟨S8x2048x1024, .f32⟩
  | 123 => ⟨S8x2048x1024, .f32⟩
  | 124 => ⟨S8x2048x1024, .f32⟩
  | 125 => ⟨S8x2048x1024, .f32⟩
  | 126 => ⟨S8x2048x1024, .f32⟩
  | 127 => ⟨S8x2048x1024, .f32⟩
  | _ => ⟨S8x2048x1024, .f32⟩

abbrev hbmTy0_1 (i : Nat) : BufTy := match i % 128 with
  | 0 => ⟨S8x2048x1024, .f32⟩
  | 1 => ⟨S8x2048x1024, .f32⟩
  | 2 => ⟨S8x2048x1024, .f32⟩
  | 3 => ⟨S8x2048x1024, .f32⟩
  | 4 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_8 : Ref sig .tc := ⟨.hbm, 74, rfl⟩
abbrev main_v51 : Ref sig .tc := ⟨.hbm, 75, rfl⟩
abbrev main_v52 : Ref sig .tc := ⟨.hbm, 76, rfl⟩
abbrev main_cst_9 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_11 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_12 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_14 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_15 : Ref sig .tc := ⟨.hbm, 114, rfl⟩
abbrev main_v84 : Ref sig .tc := ⟨.hbm, 115, rfl⟩
abbrev main_v85 : Ref sig .tc := ⟨.hbm, 116, rfl⟩
abbrev main_cst_16 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 10
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S_, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Kernel3.lean ====
abbrev S8x2048x1024 : Shape := ⟨3, ![8, 2048, 1024]⟩
abbrev S1024x5832 : Shape := ⟨2, ![1024, 5832]⟩
abbrev S1024 : Shape := ⟨1, ![1024]⟩
abbrev S128 : Shape := ⟨1, ![128]⟩
abbrev S5832x1024 : Shape := ⟨2, ![5832, 1024]⟩
abbrev S1024x1024 : Shape := ⟨2, ![1024, 1024]⟩
abbrev S128x1024 : Shape := ⟨2, ![128, 1024]⟩
abbrev S512x1024 : Shape := ⟨2, ![512, 1024]⟩
abbrev S64x1024 : Shape := ⟨2, ![64, 1024]⟩
abbrev S8x1024 : Shape := ⟨2, ![8, 1024]⟩
abbrev S200x1024 : Shape := ⟨2, ![200, 1024]⟩
abbrev S_ : Shape := ⟨0, ![]⟩
abbrev S256x1024 : Shape := ⟨2, ![256, 1024]⟩
abbrev S128x1 : Shape := ⟨2, ![128, 1]⟩
abbrev S1x1024 : Shape := ⟨2, ![1, 1024]⟩
abbrev S1x128 : Shape := ⟨2, ![1, 128]⟩
abbrev S8x1024x2048 : Shape := ⟨3, ![8, 1024, 2048]⟩
abbrev S8x8x144x256 : Shape := ⟨4, ![8, 8, 144, 256]⟩
abbrev S8x2048x128 : Shape := ⟨3, ![8, 2048, 128]⟩
abbrev S8x512x2048 : Shape := ⟨3, ![8, 512, 2048]⟩
abbrev S8x16x2048 : Shape := ⟨3, ![8, 16, 2048]⟩
abbrev S8x2048x64 : Shape := ⟨3, ![8, 2048, 64]⟩
abbrev S8x2048x512 : Shape := ⟨3, ![8, 2048, 512]⟩
abbrev S1x1024x1024 : Shape := ⟨3, ![1, 1024, 1024]⟩
abbrev S1x4x144x256 : Shape := ⟨4, ![1, 4, 144, 256]⟩
abbrev S1x1024x128 : Shape := ⟨3, ![1, 1024, 128]⟩
abbrev S1x512x1024 : Shape := ⟨3, ![1, 512, 1024]⟩
abbrev S1x16x1024 : Shape := ⟨3, ![1, 16, 1024]⟩
abbrev S1x1024x64 : Shape := ⟨3, ![1, 1024, 64]⟩
abbrev S1x1024x512 : Shape := ⟨3, ![1, 1024, 512]⟩
abbrev S1024x1 : Shape := ⟨2, ![1024, 1]⟩
abbrev S8x128x1024 : Shape := ⟨3, ![8, 128, 1024]⟩
abbrev S8x1x1024 : Shape := ⟨3, ![8, 1, 1024]⟩
abbrev S1x128x1 : Shape := ⟨3, ![1, 128, 1]⟩
abbrev S1024x256 : Shape := ⟨2, ![1024, 256]⟩
abbrev S1024x128 : Shape := ⟨2, ![1024, 128]⟩
abbrev S1024x64 : Shape := ⟨2, ![1024, 64]⟩
abbrev S16x1024 : Shape := ⟨2, ![16, 1024]⟩
abbrev S128x256 : Shape := ⟨2, ![128, 256]⟩
abbrev S1x1x128x256 : Shape := ⟨4, ![1, 1, 128, 256]⟩
abbrev S16x256 : Shape := ⟨2, ![16, 256]⟩
abbrev S1x1x16x256 : Shape := ⟨4, ![1, 1, 16, 256]⟩
abbrev S1024x512 : Shape := ⟨2, ![1024, 512]⟩

abbrev nBuf : Space → Nat
  | .hbm => 35
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S1024x5832, .f32⟩
  | .hbm, ⟨2, _⟩ => ⟨S1024, .f32⟩
  | .hbm, ⟨3, _⟩ => ⟨S128, .f32⟩
  | .hbm, ⟨4, _⟩ => ⟨S128, .f32⟩
  | .hbm, ⟨5, _⟩ => ⟨S5832x1024, .f32⟩
  | .hbm, ⟨6, _⟩ => ⟨S1024x1024, .f32⟩
  | .hbm, ⟨7, _⟩ => ⟨S1024x1024, .bf16⟩
  | .hbm, ⟨8, _⟩ => ⟨S128x1024, .f32⟩
  | .hbm, ⟨9, _⟩ => ⟨S128x1024, .bf16⟩
  | .hbm, ⟨10, _⟩ => ⟨S512x1024, .f32⟩
  | .hbm, ⟨11, _⟩ => ⟨S512x1024, .bf16⟩
  | .hbm, ⟨12, _⟩ => ⟨S64x1024, .f32⟩
  | .hbm, ⟨13, _⟩ => ⟨S64x1024, .bf16⟩
  | .hbm, ⟨14, _⟩ => ⟨S8x1024, .f32⟩
  | .hbm, ⟨15, _⟩ => ⟨S8x1024, .bf16⟩
  | .hbm, ⟨16, _⟩ => ⟨S512x1024, .f32⟩
  | .hbm, ⟨17, _⟩ => ⟨S512x1024, .bf16⟩
  | .hbm, ⟨18, _⟩ => ⟨S200x1024, .bf16⟩
  | .hbm, ⟨19, _⟩ => ⟨S_, .i32⟩
  | .hbm, ⟨20, _⟩ => ⟨S_, .bf16⟩
  | .hbm, ⟨21, _⟩ => ⟨S256x1024, .bf16⟩
  | .hbm, ⟨22, _⟩ => ⟨S128x1, .f32⟩
  | .hbm, ⟨23, _⟩ => ⟨S_, .f32⟩
  | .hbm, ⟨24, _⟩ => ⟨S128x1, .f32⟩
  | .hbm, ⟨25, _⟩ => ⟨S128x1, .f32⟩
  | .hbm, ⟨26, _⟩ => ⟨S1x1024, .f32⟩
  | .hbm, ⟨27, _⟩ => ⟨S1x128, .f32⟩
  | .hbm, ⟨28, _⟩ => ⟨S8x1024x2048, .bf16⟩
  | .hbm, ⟨29, _⟩ => ⟨S8x8x144x256, .bf16⟩
  | .hbm, ⟨30, _⟩ => ⟨S8x2048x128, .bf16⟩
  | .hbm, ⟨31, _⟩ => ⟨S8x512x2048, .bf16⟩
  | .hbm, ⟨32, _⟩ => ⟨S8x16x2048, .f32⟩
  | .hbm, ⟨33, _⟩ => ⟨S8x2048x64, .bf16⟩
  | .hbm, ⟨34, _⟩ => ⟨S8x2048x512, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x1024, .bf16⟩
  | .local _ .vmem, ⟨4, _⟩ => ⟨S256x1024, .bf16⟩
  | .local _ .vmem, ⟨5, _⟩ => ⟨S512x1024, .bf16⟩
  | .local _ .vmem, ⟨6, _⟩ => ⟨S512x1024, .bf16⟩
  | .local _ .vmem, ⟨7, _⟩ => ⟨S128x1, .f32⟩
  | .local _ .vmem, ⟨8, _⟩ => ⟨S1x128, .f32⟩
  | .local _ .vmem, ⟨9, _⟩ => ⟨S1x1024x1024, .bf16⟩
  | .local _ .vmem, ⟨10, _⟩ => ⟨S1x1024x1024, .bf16⟩
  | .local _ .vmem, ⟨11, _⟩ => ⟨S1x4x144x256, .bf16⟩
  | .local _ .vmem, ⟨12, _⟩ => ⟨S1x4x144x256, .bf16⟩
  | .local _ .vmem, ⟨13, _⟩ => ⟨S1x1024x128, .bf16⟩
  | .local _ .vmem, ⟨14, _⟩ => ⟨S1x1024x128, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x16x1024, .f32⟩
  | .local _ .vmem, ⟨18, _⟩ => ⟨S1x16x1024, .f32⟩
  | .local _ .vmem, ⟨19, _⟩ => ⟨S1x1024x64, .bf16⟩
  | .local _ .vmem, ⟨20, _⟩ => ⟨S1x1024x64, .bf16⟩
  | .local _ .vmem, ⟨21, _⟩ => ⟨S1x1024x512, .f32⟩
  | .local _ .vmem, ⟨22, _⟩ => ⟨S1x1024x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_call0_v0 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v20_2 : Ref sig .tc := ⟨.hbm, 30, rfl⟩
abbrev main_v20_3 : Ref sig .tc := ⟨.hbm, 31, rfl⟩
abbrev main_v20_4 : Ref sig .tc := ⟨.hbm, 32, rfl⟩
abbrev main_v20_5 : Ref sig .tc := ⟨.hbm, 33, rfl⟩
abbrev main_v20_6 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x144x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference3Ideal.lean ====
abbrev S8x2048x1024 : Shape := ⟨3, ![8, 2048, 1024]⟩
abbrev S1024x5832 : Shape := ⟨2, ![1024, 5832]⟩
abbrev S1024 : Shape := ⟨1, ![1024]⟩
abbrev S128 : Shape := ⟨1, ![128]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5832 : Shape := ⟨3, ![8, 2048, 5832]⟩
abbrev S8x2048x128 : Shape := ⟨3, ![8, 2048, 128]⟩
abbrev S8x2048x512 : Shape := ⟨3, ![8, 2048, 512]⟩
abbrev S8x2048x64 : Shape := ⟨3, ![8, 2048, 64]⟩
abbrev S8x2048x8 : Shape := ⟨3, ![8, 2048, 8]⟩
abbrev S8x2048x3072 : Shape := ⟨3, ![8, 2048, 3072]⟩
abbrev S8x2048x8x128 : Shape := ⟨4, ![8, 2048, 8, 128]⟩
abbrev S8x2048x8x1 : Shape := ⟨4, ![8, 2048, 8, 1]⟩
abbrev S1x1x1x128 : Shape := ⟨4, ![1, 1, 1, 128]⟩
abbrev S1x1x128 : Shape := ⟨3, ![1, 1, 128]⟩
abbrev S8x8x256x128 : Shape := ⟨4, ![8, 8, 256, 128]⟩
abbrev S8x8x128x256 : Shape := ⟨4, ![8, 8, 128, 256]⟩
abbrev S8x1024x2048 : Shape := ⟨3, ![8, 1024, 2048]⟩
abbrev S8x8x16x256 : Shape := ⟨4, ![8, 8, 16, 256]⟩
abbrev S8x8x144x256 : Shape := ⟨4, ![8, 8, 144, 256]⟩
abbrev S8x512x2048 : Shape := ⟨3, ![8, 512, 2048]⟩
abbrev S8x8x2048 : Shape := ⟨3, ![8, 8, 2048]⟩
abbrev S8x16x2048 : Shape := ⟨3, ![8, 16, 2048]⟩

abbrev nBuf : Space → Nat
  | .hbm => 83
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x5832, .f32⟩
  | .hbm, ⟨2, _⟩ => ⟨S1024, .f32⟩
  | .hbm, ⟨3, _⟩ => ⟨S128, .f32⟩
  | .hbm, ⟨4, _⟩ => ⟨S128, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S8x2048x5832, .f32⟩
  | .hbm, ⟨22, _⟩ => ⟨S8x2048x1024, .f32⟩
  | .hbm, ⟨23, _⟩ => ⟨S8x2048x128, .f32⟩
  | .hbm, ⟨24, _⟩ => ⟨S8x2048x512, .f32⟩
  | .hbm, ⟨25, _⟩ => ⟨S8x2048x64, .f32⟩
  | .hbm, ⟨26, _⟩ => ⟨S8x2048x8, .f32⟩
  | .hbm, ⟨27, _⟩ => ⟨S8x2048x512, .f32⟩
  | .hbm, ⟨28, _⟩ => ⟨S8x2048x512, .f32⟩
  | .hbm, ⟨29, _⟩ => ⟨S8x2048x3072, .f32⟩
  | .hbm, ⟨30, _⟩ => ⟨S8x2048x8x128, .f32⟩
  | .hbm, ⟨31, _⟩ => ⟨S8x2048x8x128, .f32⟩
  | .hbm, ⟨32, _⟩ => ⟨S_, .f32⟩
  | .hbm, ⟨33, _⟩ => ⟨S8x2048x8, .f32⟩
  | .hbm, ⟨34, _⟩ => ⟨S8x2048x8x1, .f32⟩
  | .hbm, ⟨35, _⟩ => ⟨S_, .f32⟩
  | .hbm, ⟨36, _⟩ => ⟨S8x2048x8x1, .f32⟩
  | .hbm, ⟨37, _⟩ => ⟨S8x2048x8x1, .f32⟩
  | .hbm, ⟨38, _⟩ => ⟨S_, .f32⟩
  | .hbm, ⟨39, _⟩ => ⟨S8x2048x8x1, .f32⟩
  | .hbm, ⟨40, _⟩ => ⟨S8x2048x8x1, .f32⟩
  | .hbm, ⟨41, _⟩ => ⟨S8x2048x8x1, .f32⟩
  | .hbm, ⟨42, _⟩ => ⟨S8x2048x8x128, .f32⟩
  | .hbm, ⟨43, _⟩ => ⟨S8x2048x8x128, .f32⟩
  | .hbm, ⟨44, _⟩ => ⟨S1x1x1x128, .f32⟩
  | .hbm, ⟨45, _⟩ => ⟨S8x2048x8x128, .f32⟩
  | .hbm, ⟨46, _⟩ => ⟨S8x2048x8x128, .f32⟩
  | .hbm, ⟨47, _⟩ => ⟨S_, .f32⟩
  | .hbm, ⟨48, _⟩ => ⟨S8x2048x8x128, .f32⟩
  | .hbm, ⟨49, _⟩ => ⟨S8x2048x8x128, .f32⟩
  | .hbm, ⟨50, _⟩ => ⟨S8x2048x128, .f32⟩
  | .hbm, ⟨51, _⟩ => ⟨S_, .f32⟩
  | .hbm, ⟨52, _⟩ => ⟨S8x2048, .f32⟩
  | .hbm, ⟨53, _⟩ => ⟨S8x2048x1, .f32⟩
  | .hbm, ⟨54, _⟩ => ⟨S_, .f32⟩
  | .hbm, ⟨55, _⟩ => ⟨S8x2048x1, .f32⟩
  | .hbm, ⟨56, _⟩ => ⟨S8x2048x1, .f32⟩
  | .hbm, ⟨57, _⟩ => ⟨S_, .f32⟩
  | .hbm, ⟨58, _⟩ => ⟨S8x2048x1, .f32⟩
  | .hbm, ⟨59, _⟩ => ⟨S8x2048x1, .f32⟩
  | .hbm, ⟨60, _⟩ => ⟨S8x2048x1, .f32⟩
  | .hbm, ⟨61, _⟩ => ⟨S8x2048x128, .f32⟩
  | .hbm, ⟨62, _⟩ => ⟨S8x2048x128, .f32⟩
  | .hbm, ⟨63, _⟩ => ⟨S1x1x128, .f32⟩
  | .hbm, ⟨64, _⟩ => ⟨S8x2048x128, .f32⟩
  | .hbm, ⟨65, _⟩ => ⟨S8x2048x128, .f32⟩
  | .hbm, ⟨66, _⟩ => ⟨S8x8x256x128, .f32⟩
  | .hbm, ⟨67, _⟩ => ⟨S8x8x128x256, .f32⟩
  | .hbm, ⟨68, _⟩ => ⟨S8x2048x1024, .f32⟩
  | .hbm, ⟨69, _⟩ => ⟨S8x1024x2048, .f32⟩
  | .hbm, ⟨70, _⟩ => ⟨S8x1024x2048, .bf16⟩
  | .hbm, ⟨71, _⟩ => ⟨S_, .f32⟩
  | .hbm, ⟨72, _⟩ => ⟨S8x8x16x256, .f32⟩
  | .hbm, ⟨73, _⟩ => ⟨S8x8x144x256, .f32⟩
  | .hbm, ⟨74, _⟩ => ⟨S8x8x144x256, .bf16⟩
  | .hbm, ⟨75, _⟩ => ⟨S8x2048x128, .bf16⟩
  | .hbm, ⟨76, _⟩ => ⟨S8x512x2048, .f32⟩
  | .hbm, ⟨77, _⟩ => ⟨S8x512x2048, .bf16⟩
  | .hbm, ⟨78, _⟩ => ⟨S8x8x2048, .f32⟩
  | .hbm, ⟨79, _⟩ => ⟨S_, .f32⟩
  | .hbm, ⟨80, _⟩ => ⟨S8x8x2048, .f32⟩
  | .hbm, ⟨81, _⟩ => ⟨S8x16x2048, .f32⟩
  | .hbm, ⟨82, _⟩ => ⟨S8x2048x64, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_10 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩

abbrev nD : Nat := 1
abbrev τ : Topo := Topo.v7x

variable {F : FTy → Type} [FloatOps F]
-- ==== Kernel4.lean ====
abbrev S8x2048x512 : Shape := ⟨3, ![8, 2048, 512]⟩
abbrev S512x1024 : Shape := ⟨2, ![512, 1024]⟩
abbrev S4096x256 : Shape := ⟨2, ![4096, 256]⟩
abbrev S1x2048 : Shape := ⟨2, ![1, 2048]⟩
abbrev S32x16 : Shape := ⟨2, ![32, 16]⟩
abbrev S512x512 : Shape := ⟨2, ![512, 512]⟩
abbrev S8x2048 : Shape := ⟨2, ![8, 2048]⟩
abbrev S1x512 : Shape := ⟨2, ![1, 512]⟩
abbrev S8x128x512 : Shape := ⟨3, ![8, 128, 512]⟩
abbrev S4x1088x128 : Shape := ⟨3, ![4, 1088, 128]⟩
abbrev S1024x512 : Shape := ⟨2, ![1024, 512]⟩
abbrev S4x1024x128 : Shape := ⟨3, ![4, 1024, 128]⟩
abbrev S256x4096 : Shape := ⟨2, ![256, 4096]⟩
abbrev S1x128x128 : Shape := ⟨3, ![1, 128, 128]⟩
abbrev S128x128 : Shape := ⟨2, ![128, 128]⟩
abbrev S1x8x128 : Shape := ⟨3, ![1, 8, 128]⟩
abbrev S8x128 : Shape := ⟨2, ![8, 128]⟩
abbrev S256x512 : Shape := ⟨2, ![256, 512]⟩
abbrev S256x128 : Shape := ⟨2, ![256, 128]⟩
abbrev S128x512 : Shape := ⟨2, ![128, 512]⟩
abbrev S8x1024 : Shape := ⟨2, ![8, 1024]⟩
abbrev S256x1024 : Shape := ⟨2, ![256, 1024]⟩
abbrev S1024x256 : Shape := ⟨2, ![1024, 256]⟩
abbrev S256x256 : Shape := ⟨2, ![256, 256]⟩
abbrev S1x256x128 : Shape := ⟨3, ![1, 256, 128]⟩
abbrev S1x32x128 : Shape := ⟨3, ![1, 32, 128]⟩
abbrev S32x128 : Shape := ⟨2, ![32, 128]⟩

abbrev nBuf : Space → Nat
  | .hbm => 12
  | .vmem => 19
  | .smem => 0
  | _ => 0

abbrev bufTy : (tb : Table) → Fin (tcTables nBuf tb) → BufTy
  | .hbm, ⟨0, _⟩ => ⟨S8x2048x512, .f32⟩
  | .hbm, ⟨1, _⟩ => ⟨S512x1024, .bf16⟩
  | .hbm, ⟨2, _⟩ => ⟨S4096x256, .bf16⟩
  | .hbm, ⟨3, _⟩ => ⟨S1x2048, .f32⟩
  | .hbm, ⟨4, _⟩ => ⟨S1x2048, .f32⟩
  | .hbm, ⟨5, _⟩ => ⟨S32x16, .f32⟩
  | .hbm, ⟨6, _⟩ => ⟨S512x512, .f32⟩
  | .hbm, ⟨7, _⟩ => ⟨S8x2048, .f32⟩
  | .hbm, ⟨8, _⟩ => ⟨S8x2048, .f32⟩
  | .hbm, ⟨9, _⟩ => ⟨S1x512, .f32⟩
  | .hbm, ⟨10, _⟩ => ⟨S512x512, .bf16⟩
  | .hbm, ⟨11, _⟩ => ⟨S8x2048x512, .bf16⟩
  | .local _ .vmem, ⟨0, _⟩ => ⟨S8x128x512, .f32⟩
  | .local _ .vmem, ⟨1, _⟩ => ⟨S8x128x512, .f32⟩
  | .local _ .vmem, ⟨2, _⟩ => ⟨S512x1024, .bf16⟩
  | .local _ .vmem, ⟨3, _⟩ => ⟨S4096x256, .bf16⟩
  | .local _ .vmem, ⟨4, _⟩ => ⟨S8x2048, .f32⟩
  | .local _ .vmem, ⟨5, _⟩ => ⟨S8x2048, .f32⟩
  | .local _ .vmem, ⟨6, _⟩ => ⟨S1x512, .f32⟩
  | .local _ .vmem, ⟨7, _⟩ => ⟨S512x512, .bf16⟩
  | .local _ .vmem, ⟨8, _⟩ => ⟨S8x128x512, .bf16⟩
  | .local _ .vmem, ⟨9, _⟩ => ⟨S8x128x512, .bf16⟩
  | .local _ .vmem, ⟨10, _⟩ => ⟨S4x1088x128, .f32⟩
  | .local _ .vmem, ⟨11, _⟩ => ⟨S1024x512, .f32⟩
  | .local _ .vmem, ⟨12, _⟩ => ⟨S4x1024x128, .f32⟩
  | .local _ .vmem, ⟨13, _⟩ => ⟨S8x2048, .f32⟩
  | .local _ .vmem, ⟨14, _⟩ => ⟨S8x2048, .f32⟩
  | .local _ .vmem, ⟨15, _⟩ => ⟨S256x4096, .f32⟩
  | .local _ .vmem, ⟨16, _⟩ => ⟨S256x4096, .f32⟩
  | .local _ .vmem, ⟨17, _⟩ => ⟨S256x4096, .f32⟩
  | .local _ .vmem, ⟨18, _⟩ => ⟨S256x4096, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Proof.RealSums.lean ====
module

public import Idealize.ShloMosaic.Lib.Pointwise

/-! Facts about finite sums of extended reals: which values are real numbers, and when a factor moves through a sum. -/

@[expose] public section

namespace Cert.Rows
open Idealize.ShloMosaic

/-- The extended real is a real number: neither infinity. -/
def IsReal (x : EReal) : Prop := ∃ r : ℝ, x = (r : EReal)

theorem isReal_iff {x : EReal} : IsReal x ↔ x ≠ ⊥ ∧ x ≠ ⊤ := by
  constructor
  · rintro ⟨r, rfl⟩; exact ⟨EReal.coe_ne_bot r, EReal.coe_ne_top r⟩
  · rintro ⟨h, h'⟩; exact ⟨x.toReal, (EReal.coe_toReal h' h).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A sum of real numbers, each seen as an extended real, is the sum of the real numbers. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type} (s : Finset ι) {f : ι → EReal} (h : ∀ i, IsReal (f i)) : IsReal (∑ i ∈ s, f i) := by
  choose r hr using h
  exact ⟨∑ i ∈ s, r i, by simp only [hr, sum_coe]⟩

/-- A factor that is a real number and not negative moves through a sum of any extended reals. -/
theorem sum_mul_of_nonneg {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih, mul_comm,
      EReal.left_distrib_of_nonneg_of_ne_top (EReal.coe_nonneg.mpr hc) (EReal.coe_ne_top c), mul_comm (c : EReal), mul_comm (c : EReal)]

theorem mul_self_nonneg' (x : EReal) : 0 ≤ x * x := by
  induction x with
  | bot => simp
  | coe r => rw [← EReal.coe_mul]; exact EReal.coe_nonneg.mpr (mul_self_nonneg r)
  | top => simp

/-- A vector divided by its root mean square has real entries, whatever its own are: an infinite entry makes the root mean square infinite, and
    the quotient zero. -/
theorem isReal_unit {n : Nat} (x : Fin n → EReal) (k : Fin n) {d e : ℝ} (hd : 0 < d) (he : 0 < e) :
    IsReal (x k * Ideal.rsqrt (Ideal.div (∑ t, x t * x t) (d : EReal) + (e : EReal))) := by
  rw [Ideal.div_coe hd.ne']
  by_cases h : ∀ t, IsReal (x t)
  · refine (h k).mul ?_
    choose r hr using h
    have hs : ∑ t, x t * x t = ((∑ t, r t * r t : ℝ) : EReal) := by simp only [hr, ← EReal.coe_mul, sum_coe]
    have hp : 0 < (∑ t, r t * r t) * (1 / d) + e := by
      have : 0 ≤ ∑ t, r t * r t := Finset.sum_nonneg fun t _ => mul_self_nonneg (r t)
      positivity
    rw [hs, ← EReal.coe_mul, ← EReal.coe_add]
    refine ⟨(Real.sqrt ((∑ t, r t * r t) * (1 / d) + e))⁻¹, ?_⟩
    show (if _ then _ else _) = _
    rw [if_neg hp.not_gt, if_neg hp.ne']
  · obtain ⟨t, ht⟩ := not_forall.mp h
    have htop : x t * x t = ⊤ := by
      rcases eq_or_ne (x t) ⊥ with hb | hb
      · rw [hb]; rfl
      · rcases eq_or_ne (x t) ⊤ with hp | hp
        · rw [hp]; rfl
        · exact absurd (isReal_iff.mpr ⟨hb, hp⟩) ht
    have hs : ∑ t, x t * x t = ⊤ := by
      rw [← Finset.add_sum_erase _ _ (Finset.mem_univ t), htop]
      exact EReal.top_add_of_ne_bot (ne_of_gt (lt_of_lt_of_le EReal.bot_lt_zero (Finset.sum_nonneg fun i _ => mul_self_nonneg' (x i))))
    have h0 : Ideal.rsqrt (∑ t, x t * x t * ((1 / d : ℝ) : EReal) + (e : EReal)) = 0 := by
      rw [← sum_mul_of_nonneg _ _ (by positivity), hs, EReal.top_mul_coe_of_pos (by positivity), EReal.top_add_coe]; rfl
    rw [sum_mul_of_nonneg _ _ (by positivity), h0, mul_zero]
    exact ⟨0, rfl⟩

end Cert.Rows

end
-- ==== Proof.Gains.lean ====
module

public import proofs.«01_k».proof.Pre_finite_gains
public import proofs.«01_k».proof.Proof.RealSums

/-! What the precondition says: the gains of the queries and of the keys are real numbers. -/

@[expose] public section

namespace Cert.Gains
open Idealize.ShloMosaic Cert.Rows Cert.Pre_finite_gains

instance facts : Cert.Pre_finite_gains.Facts := ⟨by decide⟩

theorem ofBits_inf : Ideal.ofBits .f32 0x7F800000#32 = ⊤ := by simp [Ideal.ofBits, Ideal.ieee]

/-- A value whose magnitude is below +∞ is real. -/
theorem isReal_of_abs {x : EReal} (h : Ideal.cmp .olt (max x (-x)) ⊤ = 1#1) : IsReal x := by
  have h' : max x (-x) < ⊤ := by
    by_contra hn
    simp [Ideal.cmp, hn] at h
  rw [max_lt_iff] at h'
  refine isReal_iff.mpr ⟨fun e => ?_, h'.1.ne⟩
  rw [e] at h'
  simp at h'

theorem and_eq_one {a b : BitVec 1} (h : a &&& b = 1#1) : a = 1#1 ∧ b = 1#1 := by revert a b; decide

variable (x0 : FVec Ideal S8x2048x1024 .f32) (x1 x2 : FVec Ideal S8x2048x512 .bf16) (x3 : FVec Ideal S8x256x1024 .f32)
  (x4 : FVec Ideal S1024x5832 .f32) (x5 x6 : FVec Ideal S1024 .f32) (x7 : FVec Ideal S1024x1024 .f32) (x8 x9 : FVec Ideal S128 .f32)
  (x10 x11 x12 : FVec Ideal S512x1024 .f32) (x13 : FVec Ideal S1024x1024 .f32)

/-- Where the precondition holds, every gain of the queries and of the keys is real. -/
theorem isReal_gains (h : fn (F := Ideal) x0 x1 x2 x3 x4 x5 x6 x7 x8 x9 x10 x11 x12 x13 = fun _ => 1#1) (d : Fin 128) :
    IsReal (x8 (ix1 d)) ∧ IsReal (x9 (ix1 d)) := by
  have hd := and_eq_one (congrFun h (ix1 d))
  have e : ∀ x : FVec Ideal S128 .f32, cmpf .olt (Host.absf x) (broadcastInDim S128 ![] Facts.bcast_S_S128 (constant (F := Ideal) S_ .f32 0x7F800000#32)) (ix1 d) = 1#1
      → IsReal (x (ix1 d)) := by
    intro x hx
    refine isReal_of_abs (Eq.trans ?_ hx)
    rw [← ofBits_inf]
    rfl
  exact ⟨e x8 hd.1, e x9 hd.2⟩

end Cert.Gains

end
-- ==== Proof.RowNorm.lean ====
module

public import Idealize.ShloMosaic.Lib.Pointwise

/-! The normalisation of a row of extended reals by its root mean square. -/

@[expose] public section

namespace Cert.Rows
open Idealize.ShloMosaic

/-- A row divided by its root mean square, at column `k`: `x k * rsqrt (sum (x²) / d + eps)` with the printed constant `1e-6`; `d` is the row's
    length as printed. -/
noncomputable def unit {n : Nat} (d : EReal) (x : Fin n → EReal) (k : Fin n) : EReal :=
  x k * Ideal.rsqrt (Ideal.div (∑ t, x t * x t) d + Ideal.ofBits .f32 0x358637BD#32)

/-- The RMS norm of a row of 1024, with gains `g`. -/
noncomputable def rms (x g : Fin 1024 → EReal) (k : Fin 1024) : EReal := unit (Ideal.ofBits .f32 0x44800000#32) x k * g k

/-- The RMS norm of a head's row of 128, before the gains. -/
noncomputable def unitHead (x : Fin 128 → EReal) (k : Fin 128) : EReal := unit (Ideal.ofBits .f32 0x43000000#32) x k

end Cert.Rows

end
-- ==== Proof.Attention.lean ====
module

public import proofs.«01_k».proof.Proof.RealSums

/-! One row of softmax attention: dividing the weighted sum by the sum of the weights, or each weight before. -/

@[expose] public section

namespace Cert.Rows
open Idealize.ShloMosaic

/-- The largest of a row of logits (`-∞` for none). -/
noncomputable def rowMax {n : Nat} (l : Fin n → EReal) : EReal := Finset.univ.fold max (Ideal.ofBits .f32 0xFF800000#32) l

/-- The softmax weights of a row of logits before they are normalised. -/
noncomputable def weight {n : Nat} (l : Fin n → EReal) (k : Fin n) : EReal := Ideal.exp (l k - rowMax l)

/-- Softmax attention as the reference writes it: every weight divided by the sum of the weights, then the weighted sum of the values. -/
noncomputable def attend {n : Nat} (l v : Fin n → EReal) : EReal := ∑ k, Ideal.div (weight l k) (∑ t, weight l t) * v k

theorem ofBits_negInf : Ideal.ofBits .f32 0xFF800000#32 = ⊥ := by simp [Ideal.ofBits, Ideal.ieee]

/-- A further maximum with `-∞` changes nothing. -/
theorem max_rowMax {n : Nat} (l : Fin n → EReal) : max (Ideal.ofBits .f32 0xFF800000#32) (rowMax l) = rowMax l := by
  rw [ofBits_negInf]; exact max_eq_right bot_le

/-- The largest of real logits is real. -/
theorem isReal_rowMax {n : Nat} (l : Fin (n + 1) → EReal) (hl : ∀ k, IsReal (l k)) : IsReal (rowMax l) := by
  refine isReal_iff.mpr ⟨?_, ?_⟩
  · have h : l 0 ≤ rowMax l := (Finset.le_fold_max _).mpr (Or.inr ⟨0, Finset.mem_univ _, le_refl _⟩)
    exact ne_of_gt (lt_of_lt_of_le (bot_lt_iff_ne_bot.mpr (isReal_iff.mp (hl 0)).1) h)
  · refine ne_of_lt ((Finset.fold_max_lt _).mpr ⟨?_, fun k _ => lt_top_iff_ne_top.mpr (isReal_iff.mp (hl k)).2⟩)
    rw [ofBits_negInf]; exact bot_lt_top

/-- With real logits, the weighted sum divided once is the sum with divided weights: the sum of the weights is a positive real number. The values
    may be anything. -/
theorem attend_eq {n : Nat} (l v : Fin (n + 1) → EReal) (hl : ∀ k, IsReal (l k)) :
    Ideal.div (∑ k, weight l k * v k) (∑ t, weight l t) = attend l v := by
  obtain ⟨M, hM⟩ := isReal_rowMax l hl
  choose r hr using hl
  have hw : ∀ k, weight l k = ((Real.exp (r k - M) : ℝ) : EReal) := fun k => by
    unfold weight; rw [hM, hr, ← EReal.coe_sub]; rfl
  have hs : ∑ t, weight l t = ((∑ t, Real.exp (r t - M) : ℝ) : EReal) := by simp only [hw, sum_coe]
  have hp : 0 < ∑ t, Real.exp (r t - M) := Finset.sum_pos (fun t _ => Real.exp_pos _) ⟨0, Finset.mem_univ _⟩
  unfold attend
  rw [hs, Ideal.div_coe hp.ne', sum_mul_of_nonneg _ _ (by positivity)]
  refine Finset.sum_congr rfl fun k _ => ?_
  rw [Ideal.div_coe hp.ne', mul_right_comm]

end Cert.Rows

end
-- ==== Proof.MergePayloads.lean ====
module

public import proofs.«01_k».proof.Proof.Gen.KernelIdeal.Skeleton
public import proofs.«01_k».proof.Proof.RowNorm
public import proofs.«01_k».proof.Proof.Attention

/-! The pieces of the merge call's body, each at an index: a piece is a function of the vectors it reads. -/

@[expose] public section

namespace Cert.Merge
open Idealize.ShloMosaic Cert.Rows Cert.KernelIdeal Cert.KernelIdeal.Gen
set_option maxRecDepth 16384

/-- The column of a row of 512 at which head `h` has its column `d`. -/
def col (h : Fin 4) (d : Fin 128) : Fin 512 := ⟨h * 128 + d, by omega⟩

/-- The column of the keys and values (1024 columns: all heads' keys, then all heads' values) that holds key column `j`. -/
def keyCol (j : Fin 512) : Fin 1024 := ⟨j, by omega⟩

/-- The column of the keys and values that holds value column `j`. -/
def valCol (j : Fin 512) : Fin 1024 := ⟨512 + j, by omega⟩

/-- The scale of the logits, `1 / √128`. -/
noncomputable def headScale : EReal := (((Real.sqrt 128)⁻¹ : ℝ) : EReal)

/-- The kernel's literal is named this real. -/
theorem named_headScale : Named.named (F := Ideal) Cert.KernelIdeal.κ "inv_sqrt_d" (φ := .f32) 0x3DB504F3#32 = headScale :=
  IdealRules.named_const.ideal_named_scalar _ _ _ _ rfl

/-- The reference divides by the root that it takes of 128. -/
theorem div_headRoot (x : EReal) : Ideal.div x (Ideal.sqrt (Ideal.ofBits .f32 0x43000000#32)) = x * headScale := by
  have h128 : Ideal.ofBits .f32 0x43000000#32 = ((128 : ℝ) : EReal) := by
    simp [Ideal.ofBits, Ideal.ieee, -EReal.coe_mul]
    norm_num
  rw [h128, Ideal.sqrt_coe, if_neg (by norm_num), Ideal.div_coe (show Real.sqrt 128 ≠ 0 from (Real.sqrt_pos.mpr (by norm_num)).ne'), one_div]
  rfl

/-- One head's attention in the kernel's form for a row `y` of normalised queries, gains `g` (the scale already in), keys `kk` and one column `v` of
    the values: the weighted sum, then the division. -/
noncomputable def headOut (y g : Fin 128 → EReal) (kk : Fin 256 → Fin 128 → EReal) (v : Fin 256 → EReal) : EReal :=
  Ideal.div (∑ k, weight (fun k => ∑ d, y d * g d * kk k d) k * v k) (∑ k, weight (fun k => ∑ d, y d * g d * kk k d) k)

section Queries
variable (v3 : FVec Ideal S1x1024x1024 .f32) (v5 : FVec Ideal S1x1024 .f32) (v20 : FVec Ideal S512x1024 .bf16)

/-- The normalised row. -/
theorem pay13_apply (r t : Fin 1024) :
    k0_pay13 (F := Ideal) v3 v5 (ix2 r t) = rms (fun t => v3 (ix3 0 r t)) (fun t => v5 (ix2 0 t)) t := by
  pointwise [k0_pay13, k0_pay12]; rfl

/-- The queries of all heads. -/
theorem pay14_apply (r : Fin 1024) (j : Fin 512) :
    k0_pay14 (F := Ideal) v3 v5 v20 (ix2 r j) = ∑ t, rms (fun t => v3 (ix3 0 r t)) (fun t => v5 (ix2 0 t)) t * v20 (ix2 j t) := by
  pointwise [k0_pay14]; simp only [pay13_apply]

/-- The query gains, scaled. -/
theorem pay15_apply (v23 : FVec Ideal S1x128 .f32) (d : Fin 128) : k0_pay15 (F := Ideal) v23 (ix2 0 d) = v23 (ix2 0 d) * headScale := by
  pointwise [k0_pay15, named_headScale]

/-- Head 0's queries, normalised. -/
theorem pay16_apply (r : Fin 1024) (d : Fin 128) :
    k0_pay16 (F := Ideal) v3 v5 v20 (ix2 r d) = unitHead (fun e => k0_pay14 (F := Ideal) v3 v5 v20 (ix2 r (col 0 e))) d := by
  pointwise [k0_pay16, unitHead, unit, col]

end Queries

section Heads
variable (v22 : FVec Ideal S1024x512 .f32) (v26 : FVec Ideal S1x128 .f32) (kk vv : FVec Ideal S256x128 .bf16)

/-- Head 0's attention. -/
theorem pay17_apply (v37 : FVec Ideal S1024x128 .f32) (r : Fin 1024) (d : Fin 128) :
    k0_pay17 (F := Ideal) v26 v37 kk vv (ix2 r d)
      = headOut (fun d => v37 (ix2 r d)) (fun d => v26 (ix2 0 d)) (fun k d => kk (ix2 k d)) (fun k => vv (ix2 k d)) := by
  pointwise [k0_pay17]; rfl

/-- Head 1's attention: the weights and the weighted sum are pieces of their own. -/
theorem pay20_apply (r : Fin 1024) (d : Fin 128) :
    k0_pay20 (F := Ideal) (k0_pay18 v22 v26 kk) (k0_pay19 v22 v26 kk vv) (ix2 r d)
      = headOut (unitHead fun e => v22 (ix2 r (col 1 e))) (fun d => v26 (ix2 0 d)) (fun k d => kk (ix2 k d)) (fun k => vv (ix2 k d)) := by
  pointwise [k0_pay20, k0_pay18, k0_pay19]; rfl

/-- Head 2's attention. -/
theorem pay21_apply (r : Fin 1024) (d : Fin 128) :
    k0_pay21 (F := Ideal) v22 v26 kk vv (ix2 r d)
      = headOut (unitHead fun e => v22 (ix2 r (col 2 e))) (fun d => v26 (ix2 0 d)) (fun k d => kk (ix2 k d)) (fun k => vv (ix2 k d)) := by
  pointwise [k0_pay21]; rfl

/-- Head 3's queries, normalised. -/
theorem pay22_apply (r : Fin 1024) (d : Fin 128) : k0_pay22 (F := Ideal) v22 (ix2 r d) = unitHead (fun e => v22 (ix2 r (col 3 e))) d := by
  pointwise [k0_pay22]; rfl

/-- All heads' outputs beside one another, head 3 attended here. -/
theorem pay23_apply (o0 o1 o2 : FVec Ideal S1024x128 .bf16) (q3 : FVec Ideal S1024x128 .f32) (r : Fin 1024) (h : Fin 4) (d : Fin 128) :
    k0_pay23 (F := Ideal) v26 o0 o1 o2 q3 kk vv (ix2 r (col h d))
      = if h = 0 then o0 (ix2 r d) else if h = 1 then o1 (ix2 r d) else if h = 2 then o2 (ix2 r d)
        else headOut (fun d => q3 (ix2 r d)) (fun d => v26 (ix2 0 d)) (fun k d => kk (ix2 k d)) (fun k => vv (ix2 k d)) := by
  have e1 : 128 + (d : Nat) - 128 = d := by omega
  have e2 : 256 + (d : Nat) - 128 - 128 = d := by omega
  have e3 : 384 + (d : Nat) - 128 - 128 - 128 = d := by omega
  fin_cases h <;> pointwise [k0_pay23, col] <;> simp only [e1, e2, e3] <;> split_ifs <;> first | rfl | omega

end Heads

section Keys
variable (v182 : FVec Ideal S1x256x1024 .f32) (v184 : FVec Ideal S1x1024 .f32) (v199 : FVec Ideal S1024x1024 .bf16) (v203 : FVec Ideal S1x128 .f32)
  (v201 : FVec Ideal S256x1024 .f32)

/-- The memory's keys and values. -/
theorem pay2_apply (k : Fin 256) (j : Fin 1024) :
    k0_pay2 (F := Ideal) v182 v184 v199 (ix2 k j) = ∑ t, rms (fun t => v182 (ix3 0 k t)) (fun t => v184 (ix2 0 t)) t * v199 (ix2 t j) := by
  pointwise [k0_pay2]; rfl

/-- Head 0's keys. -/
theorem pay3_apply (k : Fin 256) (d : Fin 128) : k0_pay3 (F := Ideal) v182 v184 v199 v203 (ix2 k d)
    = unitHead (fun e => k0_pay2 (F := Ideal) v182 v184 v199 (ix2 k (keyCol (col 0 e)))) d * v203 (ix2 0 d) := by
  pointwise [k0_pay3, unitHead, unit, col, keyCol]

/-- Head 1's keys. -/
theorem pay5_apply (k : Fin 256) (d : Fin 128) : k0_pay5 (F := Ideal) (k0_pay4 v182 v184 v199) v203 (ix2 k d)
    = unitHead (fun e => k0_pay2 (F := Ideal) v182 v184 v199 (ix2 k (keyCol (col 1 e)))) d * v203 (ix2 0 d) := by
  pointwise [k0_pay5, k0_pay4, unitHead, unit, col, keyCol]

/-- Head 2's keys. -/
theorem pay6_apply (k : Fin 256) (d : Fin 128) : k0_pay6 (F := Ideal) v201 v203 (ix2 k d)
    = unitHead (fun e => v201 (ix2 k (keyCol (col 2 e)))) d * v203 (ix2 0 d) := by
  pointwise [k0_pay6]; rfl

/-- Head 3's keys. -/
theorem pay10_apply (k : Fin 256) (d : Fin 128) : k0_pay10 (F := Ideal) (k0_pay7 v201) (k0_pay8 v203) (k0_pay9 v201) (ix2 k d)
    = unitHead (fun e => v201 (ix2 k (keyCol (col 3 e)))) d * v203 (ix2 0 d) := by
  pointwise [k0_pay10, k0_pay7, k0_pay8, k0_pay9]; rfl

/-- The values. -/
theorem pay11_apply (k : Fin 256) (j : Fin 512) : k0_pay11 (F := Ideal) v201 (ix2 k j) = v201 (ix2 k (valCol j)) := by
  pointwise [k0_pay11]; rfl

end Keys

section Branches

/-- The first branch, gated. -/
theorem pay25_apply (v19 : FVec Ideal S1024x1024 .bf16) (v144 : FVec Ideal S1x1024x512 .bf16) (v148 : FVec Ideal S1024x1024 .bf16)
    (v152 : FVec Ideal S512x1024 .bf16) (r j : Fin 1024) : k0_pay25 (F := Ideal) v19 v144 v148 v152 (ix2 r j)
      = Ideal.logistic (∑ t, v19 (ix2 r t) * v148 (ix2 j t)) * ∑ i, v144 (ix3 0 r i) * v152 (ix2 i j) := by
  pointwise [k0_pay25]

/-- The second branch's gate. -/
theorem pay26_apply (v19 v156 : FVec Ideal S1024x1024 .bf16) (r j : Fin 1024) : k0_pay26 (F := Ideal) v19 v156 (ix2 r j)
    = Ideal.logistic (∑ t, v19 (ix2 r t) * v156 (ix2 j t)) := by
  pointwise [k0_pay26]

/-- The stored block: the row plus the three gated branches through the output projection. -/
theorem pay1_apply (v3 : FVec Ideal S1x1024x1024 .f32) (v19 : FVec Ideal S1024x1024 .bf16) (v143 : FVec Ideal S1024x512 .bf16)
    (v146 : FVec Ideal S1x1024x512 .bf16) (v155 v159 : FVec Ideal S1024x1024 .f32) (v160 : FVec Ideal S512x1024 .bf16)
    (v165 : FVec Ideal S1024x1024 .bf16) (v169 : FVec Ideal S512x1024 .bf16) (v175 : FVec Ideal S1024x1024 .bf16) (r l : Fin 1024) :
    k0_pay1 (F := Ideal) (k0_pay12 v3) v19 v143 (k0_pay24 v146) v155 v159 v160 v165 v169 v175 (ix3 0 r l)
      = v3 (ix3 0 r l) + ∑ j, (v155 (ix2 r j) + v159 (ix2 r j) * (∑ i, v146 (ix3 0 r i) * v160 (ix2 i j))
          + Ideal.logistic (∑ t, v19 (ix2 r t) * v165 (ix2 j t)) * ∑ i, v143 (ix2 r i) * v169 (ix2 i j)) * v175 (ix2 j l) := by
  pointwise [k0_pay1, k0_pay12, k0_pay24]

end Branches

end Cert.Merge

end
-- ==== Proof.MergeRow.lean ====
module

public import proofs.«01_k».proof.Proof.MergePayloads

/-! One row of the merge: cross attention over the memory, and the three gated branches through the output projection. -/

@[expose] public section

namespace Cert.Merge
open Idealize.ShloMosaic Cert.Rows

/-- The row's queries: its RMS norm times the query columns `wq` of the input projection. -/
noncomputable def query (x g : Fin 1024 → EReal) (wq : Fin 512 → Fin 1024 → EReal) (j : Fin 512) : EReal := ∑ t, rms x g t * wq j t

/-- The gate of branch `i`: the logistic function of the row's RMS norm times the branch's gate columns `wg` of the input projection. -/
noncomputable def gate (x g : Fin 1024 → EReal) (wg : Fin 3 → Fin 1024 → Fin 1024 → EReal) (i : Fin 3) (l : Fin 1024) : EReal :=
  Ideal.logistic (∑ t, rms x g t * wg i l t)

/-- A memory row's keys and values: its RMS norm times the weight. -/
noncomputable def keyVal (mem g : Fin 1024 → EReal) (w : Fin 1024 → Fin 1024 → EReal) (j : Fin 1024) : EReal := ∑ t, rms mem g t * w t j

/-- A memory row's normalised keys of head `h`, from its keys and values. -/
noncomputable def headKey (kv : Fin 1024 → EReal) (g : Fin 128 → EReal) (h : Fin 4) (d : Fin 128) : EReal :=
  unitHead (fun e => kv (keyCol (col h e))) d * g d

/-- Cross attention of one row, at column `d` of head `h`: the logits are the scaled products of normalised queries and keys, the softmax weights
    are normalised before the weighted sum of the values. -/
noncomputable def cross (q : Fin 512 → EReal) (gq : Fin 128 → EReal) (key : Fin 256 → Fin 4 → Fin 128 → EReal) (val : Fin 256 → Fin 512 → EReal)
    (h : Fin 4) (d : Fin 128) : EReal :=
  attend (fun k => (∑ e, unitHead (fun e => q (col h e)) e * gq e * key k h e) * headScale) (fun k => val k (col h d))

/-- A row of 512 from a value for each head and column of the head. -/
def flat (f : Fin 4 → Fin 128 → EReal) (j : Fin 512) : EReal := f ⟨j / 128, by omega⟩ ⟨j % 128, by omega⟩

/-- A row of 512 is `flat f` when each head's column is. -/
theorem eq_flat {f : Fin 4 → Fin 128 → EReal} {g : Fin 512 → EReal} (h : ∀ a d, g (col a d) = f a d) (j : Fin 512) : g j = flat f j := by
  rw [flat, ← h]
  congr 1
  apply Fin.ext
  show (j : Nat) = j / 128 * 128 + j % 128
  omega

/-- The merged row at column `l`: the row `x` plus the sum of the gated branches through the output projection. -/
noncomputable def combine (x : Fin 1024 → EReal) (gt : Fin 3 → Fin 1024 → EReal) (od os ox : Fin 512 → EReal)
    (wd ws wx : Fin 512 → Fin 1024 → EReal) (wo : Fin 1024 → Fin 1024 → EReal) (l : Fin 1024) : EReal :=
  x l + ∑ j, (gt 0 j * (∑ i, od i * wd i j) + gt 1 j * (∑ i, os i * ws i j) + gt 2 j * ∑ i, ox i * wx i j) * wo j l

/-- The whole row: `combine` of the row's gates, the two branches given, and its cross attention. -/
noncomputable def mergeRow (x gx : Fin 1024 → EReal) (od os : Fin 512 → EReal) (mem : Fin 256 → Fin 1024 → EReal) (gm : Fin 1024 → EReal)
    (wq : Fin 512 → Fin 1024 → EReal) (wg : Fin 3 → Fin 1024 → Fin 1024 → EReal) (wkv : Fin 1024 → Fin 1024 → EReal) (gq gk : Fin 128 → EReal)
    (wd ws wx : Fin 512 → Fin 1024 → EReal) (wo : Fin 1024 → Fin 1024 → EReal) (l : Fin 1024) : EReal :=
  combine x (gate x gx wg) od os
    (flat (cross (query x gx wq) gq (fun k => headKey (keyVal (mem k) gm wkv) gk) fun k j => keyVal (mem k) gm wkv (valCol j)))
    wd ws wx wo l

/-! The kernel scales the query gains where the reference scales the logits, and divides after the weighted sum. -/

theorem isReal_headScale : ∃ c : ℝ, 0 ≤ c ∧ headScale = (c : EReal) :=
  ⟨(Real.sqrt 128)⁻¹, inv_nonneg.mpr (Real.sqrt_nonneg _), rfl⟩

/-- A head's normalised row is real, whatever the row. -/
theorem isReal_unitHead (x : Fin 128 → EReal) (k : Fin 128) : IsReal (unitHead x k) := by
  have h128 : Ideal.ofBits .f32 0x43000000#32 = ((128 : ℝ) : EReal) := by
    simp [Ideal.ofBits, Ideal.ieee, -EReal.coe_mul]
    norm_num
  have heps : Ideal.ofBits .f32 0x358637BD#32 = ((8796093 / 8796093022208 : ℝ) : EReal) := by
    simp [Ideal.ofBits, Ideal.ieee, -EReal.coe_mul]
    norm_num
  unfold unitHead unit
  rw [h128, heps]
  exact isReal_unit x k (by norm_num) (by norm_num)

/-- A head's keys are real when their gains are. -/
theorem isReal_headKey (kv : Fin 1024 → EReal) {g : Fin 128 → EReal} (hg : ∀ d, IsReal (g d)) (h : Fin 4) (d : Fin 128) :
    IsReal (headKey kv g h d) := (isReal_unitHead _ d).mul (hg d)

/-- One head in the kernel's form is the head of `cross`, for real query gains and real keys. -/
theorem headOut_eq (q : Fin 512 → EReal) {gq : Fin 128 → EReal} (hq : ∀ d, IsReal (gq d)) (key : Fin 256 → Fin 4 → Fin 128 → EReal)
    (hk : ∀ k h d, IsReal (key k h d)) (val : Fin 256 → Fin 512 → EReal) (h : Fin 4) (d : Fin 128) :
    headOut (unitHead fun e => q (col h e)) (fun e => gq e * headScale) (fun k e => key k h e) (fun k => val k (col h d))
      = cross q gq key val h d := by
  obtain ⟨c, hc, hs⟩ := isReal_headScale
  have hl : (fun k => ∑ e, unitHead (fun e => q (col h e)) e * (gq e * headScale) * key k h e)
      = fun k => (∑ e, unitHead (fun e => q (col h e)) e * gq e * key k h e) * headScale := by
    funext k
    rw [hs, sum_mul_of_nonneg _ _ hc]
    refine Finset.sum_congr rfl fun e _ => ?_
    rw [← mul_assoc, mul_right_comm]
  unfold headOut cross
  rw [hl]
  refine attend_eq _ _ fun k => IsReal.mul (IsReal.sum _ fun e => ?_) ⟨c, hs⟩
  exact ((isReal_unitHead _ e).mul (hq e)).mul (hk k h e)

end Cert.Merge

end
-- ==== Proof.MergeBlock.lean ====
module

public import proofs.«01_k».proof.Proof.MergeRow
public import Idealize.ShloMosaic.Lib.Pipeline.ValueKit

/-! What the merge call stores at one grid point, row by row, given the keys and values it holds for the batch. -/

@[expose] public section

namespace Cert.Merge
open Idealize.ShloMosaic Cert.Rows Cert.KernelIdeal Cert.KernelIdeal.Gen
set_option maxRecDepth 16384

variable (x : FVec Ideal S1x1024x1024 .f32) (od os : FVec Ideal S1x1024x512 .bf16) (gx : FVec Ideal S1x1024 .f32)
  (wg : FVec Ideal S3072x1024 .bf16) (wq : FVec Ideal S512x1024 .bf16) (gq : FVec Ideal S1x128 .f32)
  (wd ws wx : FVec Ideal S512x1024 .bf16) (wo : FVec Ideal S1024x1024 .bf16)

/-- The stored block as a function of the blocks it reads and of each head's keys and values. -/
noncomputable def block (k0 k1 k2 k3 v0 v1 v2 v3 : FVec Ideal S256x128 .bf16) (w0 w1 w2 : FVec Ideal S1024x1024 .bf16) : FVec Ideal S1x1024x1024 .f32 :=
  k0_pay1 (k0_pay12 x) (k0_pay13 x gx)
    (k0_pay23 (k0_pay15 gq) (k0_pay17 (k0_pay15 gq) (k0_pay16 x gx wq) k0 v0)
      (k0_pay20 (k0_pay18 (k0_pay14 x gx wq) (k0_pay15 gq) k1) (k0_pay19 (k0_pay14 x gx wq) (k0_pay15 gq) k1 v1))
      (k0_pay21 (k0_pay14 x gx wq) (k0_pay15 gq) k2 v2) (k0_pay22 (k0_pay14 x gx wq)) k3 v3)
    (k0_pay24 os) (k0_pay25 (k0_pay13 x gx) od w0 wd) (k0_pay26 (k0_pay13 x gx) w1) ws w2 wx wo

/-- The stored block holds at row `r` the merged row, when the heads' keys and values are columns of `key` and `val` and the gains are real. -/
theorem block_apply (k0 k1 k2 k3 v0 v1 v2 v3 : FVec Ideal S256x128 .bf16) (w0 w1 w2 : FVec Ideal S1024x1024 .bf16)
    (key : Fin 256 → Fin 4 → Fin 128 → EReal) (val : Fin 256 → Fin 512 → EReal) (wgt : Fin 3 → Fin 1024 → Fin 1024 → EReal)
    (hq : ∀ d, IsReal (gq (ix2 0 d))) (hk : ∀ k h d, IsReal (key k h d))
    (hk0 : ∀ k d, k0 (ix2 k d) = key k 0 d) (hk1 : ∀ k d, k1 (ix2 k d) = key k 1 d) (hk2 : ∀ k d, k2 (ix2 k d) = key k 2 d)
    (hk3 : ∀ k d, k3 (ix2 k d) = key k 3 d)
    (hv0 : ∀ k d, v0 (ix2 k d) = val k (col 0 d)) (hv1 : ∀ k d, v1 (ix2 k d) = val k (col 1 d)) (hv2 : ∀ k d, v2 (ix2 k d) = val k (col 2 d))
    (hv3 : ∀ k d, v3 (ix2 k d) = val k (col 3 d))
    (hw0 : ∀ l t, w0 (ix2 l t) = wgt 0 l t) (hw1 : ∀ l t, w1 (ix2 l t) = wgt 1 l t) (hw2 : ∀ l t, w2 (ix2 l t) = wgt 2 l t)
    (r l : Fin 1024) :
    block x od os gx wq gq wd ws wx wo k0 k1 k2 k3 v0 v1 v2 v3 w0 w1 w2 (ix3 0 r l)
      = combine (fun t => x (ix3 0 r t)) (gate (fun t => x (ix3 0 r t)) (fun t => gx (ix2 0 t)) wgt) (fun j => od (ix3 0 r j))
          (fun j => os (ix3 0 r j))
          (flat (cross (query (fun t => x (ix3 0 r t)) (fun t => gx (ix2 0 t)) fun j t => wq (ix2 j t)) (fun d => gq (ix2 0 d)) key val))
          (fun j t => wd (ix2 j t)) (fun j t => ws (ix2 j t)) (fun j t => wx (ix2 j t)) (fun j t => wo (ix2 j t)) l := by
  have hox : ∀ h d, k0_pay23 (F := Ideal) (k0_pay15 gq) (k0_pay17 (k0_pay15 gq) (k0_pay16 x gx wq) k0 v0)
      (k0_pay20 (k0_pay18 (k0_pay14 x gx wq) (k0_pay15 gq) k1) (k0_pay19 (k0_pay14 x gx wq) (k0_pay15 gq) k1 v1))
      (k0_pay21 (k0_pay14 x gx wq) (k0_pay15 gq) k2 v2) (k0_pay22 (k0_pay14 x gx wq)) k3 v3 (ix2 r (col h d))
      = cross (query (fun t => x (ix3 0 r t)) (fun t => gx (ix2 0 t)) fun j t => wq (ix2 j t)) (fun d => gq (ix2 0 d)) key val h d := by
    intro h d
    rw [pay23_apply, ← headOut_eq _ hq key hk val h d]
    simp only [pay17_apply, pay20_apply, pay21_apply, pay22_apply, pay16_apply, pay15_apply, pay14_apply, hk0, hk1, hk2, hk3, hv0, hv1, hv2, hv3,
      query]
    fin_cases h <;> rfl
  unfold block
  rw [pay1_apply]
  generalize k0_pay23 (F := Ideal) _ _ _ _ _ _ _ = ox at hox ⊢
  have hg : ∀ j, ox (ix2 r j) = flat _ j := eq_flat (g := fun j => ox (ix2 r j)) hox
  unfold combine gate
  simp only [hg, pay25_apply, pay26_apply, pay13_apply, hw0, hw1, hw2]

end Cert.Merge

end
-- ==== Proof.MergeReference.lean ====
module

public import proofs.«01_k».proof.Proof.Gen.ReferenceIdeal.Read
public import proofs.«01_k».proof.Proof.MergeRow

/-! The pieces of the reference's merge, each at an index: norms, queries, gates, keys, values, softmax weights. -/

@[expose] public section

namespace Cert.Merge
open Idealize.ShloMosaic Cert.Rows Cert.ReferenceIdeal.Read
set_option maxRecDepth 16384

variable (x0 : FVec Ideal ⟨3, ![8, 2048, 1024]⟩ .f32) (x1 x2 : FVec Ideal ⟨3, ![8, 2048, 512]⟩ .bf16) (x3 : FVec Ideal ⟨3, ![8, 256, 1024]⟩ .f32)
  (x4 : FVec Ideal ⟨2, ![1024, 5832]⟩ .f32) (x5 x6 : FVec Ideal ⟨1, ![1024]⟩ .f32) (x7 : FVec Ideal ⟨2, ![1024, 1024]⟩ .f32)
  (x8 x9 : FVec Ideal ⟨1, ![128]⟩ .f32) (x10 x11 x12 : FVec Ideal ⟨2, ![512, 1024]⟩ .f32) (x13 : FVec Ideal ⟨2, ![1024, 1024]⟩ .f32)

/-- The query columns of the input projection. -/
def queryWeight (j : Fin 512) (t : Fin 1024) : EReal := x4 (ix2 t ⟨2248 + j, by omega⟩)

/-- The gate columns of the input projection. -/
def gateWeight (i : Fin 3) (l t : Fin 1024) : EReal := x4 (ix2 t ⟨2760 + (1024 * i + l), by omega⟩)

/-- The normalised rows. -/
theorem ref_norm (b : Fin 8) (s : Fin 2048) (t : Fin 1024) :
    val_main_v14 (F := Ideal) x0 x5 (ix3 b s t) = rms (fun t => x0 (ix3 b s t)) (fun t => x5 (ix1 t)) t := by
  pointwise [val_main_v14, val_main_v13, val_main_v12, val_main_v11, val_main_v10, val_main_v9, val_main_v8, val_main_v7, val_main_v6, val_main_v5,
    val_main_v4, val_main_v3, val_main_v2, val_main_cst, val_main_cst_0, val_main_cst_1]
  rfl

/-- The queries. -/
theorem ref_query (b : Fin 8) (s : Fin 2048) (j : Fin 512) :
    val_main_v17 (F := Ideal) x0 x4 x5 (ix3 b s j) = query (fun t => x0 (ix3 b s t)) (fun t => x5 (ix1 t)) (queryWeight x4) j := by
  pointwise [val_main_v17, val_main_v16, val_main_v15, query, queryWeight]
  simp only [ref_norm]

/-- The gates, all branches beside one another. -/
theorem ref_gate (b : Fin 8) (s : Fin 2048) (j : Fin 3072) : val_main_v87 (F := Ideal) x0 x4 x5 (ix3 b s j)
    = Ideal.logistic (∑ t, rms (fun t => x0 (ix3 b s t)) (fun t => x5 (ix1 t)) t * x4 (ix2 t ⟨2760 + j, by omega⟩)) := by
  pointwise [val_main_v87, val_main_v86, val_main_v85, val_main_v84, val_main_v83, val_main_v82, val_main_cst_15, val_main_cst_16, val_main_v18,
    val_main_v16, val_main_v15]
  have e : 2248 + (512 + (j : Nat)) = 2760 + j := by omega
  simp only [ref_norm, e]
  rfl

/-- The memory's keys and values. -/
theorem ref_keyVal (b : Fin 8) (k : Fin 256) (j : Fin 1024) : val_main_v32 (F := Ideal) x3 x6 x7 (ix3 b k j)
    = keyVal (fun t => x3 (ix3 b k t)) (fun t => x6 (ix1 t)) (fun t j => x7 (ix2 t j)) j := by
  pointwise [val_main_v32, val_main_v31, val_main_v30, val_main_v29, val_main_v28, val_main_v27, val_main_v26, val_main_v25, val_main_v24,
    val_main_v23, val_main_v22, val_main_v21, val_main_v20, val_main_v19, val_main_cst_2, val_main_cst_3, val_main_cst_4]
  rfl

/-- The rows of the queries, cut into heads. -/
theorem ref_split (b : Fin 8) (s : Fin 2048) (h : Fin 4) (d : Fin 128) :
    val_main_v35 (F := Ideal) x0 x4 x5 (ix4 b s h d) = val_main_v17 (F := Ideal) x0 x4 x5 (ix3 b s (col h d)) := by
  pointwise [val_main_v35, col]

/-- The heads' normalised queries. -/
theorem ref_headQuery (b : Fin 8) (s : Fin 2048) (h : Fin 4) (d : Fin 128) : val_main_v48 (F := Ideal) x0 x4 x5 x8 (ix4 b s h d)
    = unitHead (fun e => query (fun t => x0 (ix3 b s t)) (fun t => x5 (ix1 t)) (queryWeight x4) (col h e)) d * x8 (ix1 d) := by
  simp only [← ref_query, ← ref_split]
  pointwise [val_main_v48, val_main_v47, val_main_v46, val_main_v45, val_main_v44, val_main_v43, val_main_v42, val_main_v41, val_main_v40,
    val_main_v39, val_main_v38, val_main_v37, val_main_v36, val_main_cst_5, val_main_cst_6, val_main_cst_7, unitHead, unit]

/-- The keys, cut into heads. -/
theorem ref_splitKey (b : Fin 8) (k : Fin 256) (h : Fin 4) (d : Fin 128) :
    val_main_v49 (F := Ideal) x3 x6 x7 (ix4 b k h d) = val_main_v32 (F := Ideal) x3 x6 x7 (ix3 b k (keyCol (col h d))) := by
  pointwise [val_main_v49, val_main_v33, col, keyCol]

/-- The values, cut into heads. -/
theorem ref_splitVal (b : Fin 8) (k : Fin 256) (h : Fin 4) (d : Fin 128) :
    val_main_v63 (F := Ideal) x3 x6 x7 (ix4 b k h d) = val_main_v32 (F := Ideal) x3 x6 x7 (ix3 b k (valCol (col h d))) := by
  pointwise [val_main_v63, val_main_v34, col, valCol]

/-- The heads' normalised keys. -/
theorem ref_headKey (b : Fin 8) (k : Fin 256) (h : Fin 4) (d : Fin 128) : val_main_v62 (F := Ideal) x3 x6 x7 x9 (ix4 b k h d)
    = headKey (keyVal (fun t => x3 (ix3 b k t)) (fun t => x6 (ix1 t)) (fun t j => x7 (ix2 t j))) (fun d => x9 (ix1 d)) h d := by
  unfold headKey
  simp only [← ref_keyVal, ← ref_splitKey]
  pointwise [val_main_v62, val_main_v61, val_main_v60, val_main_v59, val_main_v58, val_main_v57, val_main_v56, val_main_v55, val_main_v54,
    val_main_v53, val_main_v52, val_main_v51, val_main_v50, val_main_cst_8, val_main_cst_9, val_main_cst_10, unitHead, unit]

/-- The logits. -/
theorem ref_logit (b : Fin 8) (h : Fin 4) (s : Fin 2048) (k : Fin 256) : val_main_v67 (F := Ideal) x0 x3 x4 x5 x6 x7 x8 x9 (ix4 b h s k)
    = (∑ e, val_main_v48 (F := Ideal) x0 x4 x5 x8 (ix4 b s h e) * val_main_v62 (F := Ideal) x3 x6 x7 x9 (ix4 b k h e)) * headScale := by
  have e : val_main_v67 (F := Ideal) x0 x3 x4 x5 x6 x7 x8 x9 (ix4 b h s k)
      = Ideal.div (∑ e, val_main_v48 (F := Ideal) x0 x4 x5 x8 (ix4 b s h e) * val_main_v62 (F := Ideal) x3 x6 x7 x9 (ix4 b k h e))
          (Ideal.sqrt (Ideal.ofBits .f32 0x43000000#32)) := by
    pointwise [val_main_v67, val_main_v66, val_main_v65, val_main_v64, val_main_cst_11]
  rw [e, div_headRoot]

/-- A maximum over the last axis, at an index. -/
theorem hostMax_apply (y : FVec Ideal ⟨4, ![8, 4, 2048, 256]⟩ .f32) (c : FVec Ideal ⟨0, ![]⟩ .f32)
    (hr : (⟨4, ![8, 4, 2048, 256]⟩ : Shape).ReducesTo [3] ⟨3, ![8, 4, 2048]⟩) (hu : 0 < (⟨0, ![]⟩ : Shape).numel)
    (b : Fin 8) (h : Fin 4) (s : Fin 2048) :
    Host.reduce FloatOps.maximumf y c hr hu (ix3 b h s) = Finset.univ.fold max (c (Shape.Idx.first hu)) fun k => y (ix4 b h s k) := by
  pointwise

/-- The largest logit of a row. -/
theorem ref_max (b : Fin 8) (h : Fin 4) (s : Fin 2048) : val_main_v70 (F := Ideal) x0 x3 x4 x5 x6 x7 x8 x9 (ix3 b h s)
    = rowMax fun k => val_main_v67 (F := Ideal) x0 x3 x4 x5 x6 x7 x8 x9 (ix4 b h s k) := by
  refine Eq.trans ?_ (max_rowMax _)
  rw [val_main_v70_apply]
  exact congrArg₂ max rfl (hostMax_apply _ _ _ _ b h s)

/-- The softmax weights, normalised. -/
theorem ref_weight (b : Fin 8) (h : Fin 4) (s : Fin 2048) (k : Fin 256) : val_main_v78 (F := Ideal) x0 x3 x4 x5 x6 x7 x8 x9 (ix4 b h s k)
    = Ideal.div (weight (fun k => val_main_v67 (F := Ideal) x0 x3 x4 x5 x6 x7 x8 x9 (ix4 b h s k)) k)
        (∑ t, weight (fun k => val_main_v67 (F := Ideal) x0 x3 x4 x5 x6 x7 x8 x9 (ix4 b h s k)) t) := by
  unfold weight
  simp only [← ref_max]
  pointwise [val_main_v78, val_main_v77, val_main_v76, val_main_v75, val_main_v74, val_main_v73, val_main_v72, val_main_v71, val_main_cst_14]

end Cert.Merge

end
-- ==== Proof.MergeArray.lean ====
module

public import proofs.«01_k».proof.Proof.Gen.KernelIdeal.Value
public import proofs.«01_k».proof.Proof.MergeBlock
public import proofs.«01_k».proof.Proof.MergeReference
public import Idealize.ShloMosaic.Lib.Pipeline.ValueKit
public import Idealize.ShloMosaic.Lib.Pipeline.ReadBack

/-! The merge call's result array after its run, row by row. -/

@[expose] public section

namespace Cert.Merge
open Cert.KernelIdeal Cert.KernelIdeal.Gen Idealize.ShloMosaic Idealize.ShloMosaic.TcCoe Cert.Rows
set_option maxRecDepth 16384

variable (m : (ℓ : Loc nD τ sig) → Buf (Elt Ideal) ℓ)

/-- Each window's block index at a grid point: points run over batches, two halves of the rows for each. -/
theorem idx (t : Fin cfg0.N) : win0_0.index t = ![t.val / 2, t.val % 2, 0] ∧ win0_1.index t = ![t.val / 2, t.val % 2, 0]
    ∧ win0_2.index t = ![t.val / 2, t.val % 2, 0] ∧ win0_3.index t = ![t.val / 2, 0, 0] ∧ win0_4.index t = ![0, 0] ∧ win0_5.index t = ![0, 0]
    ∧ win0_6.index t = ![0, 0] ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![t.val / 2, t.val % 2, 0] :=
  (by decide +kernel : ∀ t : Fin grid0.N, win0_0.index t = ![t.val / 2, t.val % 2, 0] ∧ win0_1.index t = ![t.val / 2, t.val % 2, 0]
    ∧ win0_2.index t = ![t.val / 2, t.val % 2, 0] ∧ win0_3.index t = ![t.val / 2, 0, 0] ∧ win0_4.index t = ![0, 0] ∧ win0_5.index t = ![0, 0]
    ∧ win0_6.index t = ![0, 0] ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![t.val / 2, t.val % 2, 0]) t

/-- The part of the gate weight that belongs to a branch, read at the rows the body loads. -/
noncomputable def part (W : FVec Ideal S3072x1024 .bf16) (i : Fin 3) (l t : Fin 1024) : EReal := W (ix2 ⟨1024 * i + l, by omega⟩ t)

/-- The keys and values of one memory block. -/
noncomputable def heldKey (mem : FVec Ideal S1x256x1024 .f32) (gm : FVec Ideal S1x1024 .f32) (w : FVec Ideal S1024x1024 .bf16) (gk : FVec Ideal S1x128 .f32)
    (k : Fin 256) (h : Fin 4) (d : Fin 128) : EReal :=
  headKey (keyVal (fun t => mem (ix3 0 k t)) (fun t => gm (ix2 0 t)) fun t j => w (ix2 t j)) (fun d => gk (ix2 0 d)) h d

noncomputable def heldVal (mem : FVec Ideal S1x256x1024 .f32) (gm : FVec Ideal S1x1024 .f32) (w : FVec Ideal S1024x1024 .bf16)
    (k : Fin 256) (j : Fin 512) : EReal :=
  keyVal (fun t => mem (ix3 0 k t)) (fun t => gm (ix2 0 t)) (fun t j => w (ix2 t j)) (valCol j)

/-- One head's columns of a scratch, as a rectangle. -/
abbrev headRect (n : Nat) (h : ∀ a, (![0, n] : Fin 2 → Nat) a + ![256, 128] a ≤ S256x512.size a) : Rect S256x512 :=
  Rect.unit (s := S256x512) ![0, n] ![256, 128] h

theorem headRect_emb (n : Nat) (h) (b : Fin 4) (hn : n = b.1 * 128) (k : Fin 256) (d : Fin 128) :
    (headRect n h).emb (ix2 k d) = ix2 k (col b d) := by
  subst hn
  funext a
  apply Fin.ext
  rw [Rect.emb_apply]
  fin_cases a
  · simp
  · simp [col]

/-- A head's columns, loaded. -/
theorem ld_head (X : FVec Ideal S256x512 .bf16) (n : Nat) (h) (b : Fin 4) (hn : n = b.1 * 128) (k : Fin 256) (d : Fin 128) :
    View.ld (Val := Elt Ideal) (e' := .bf16) X (headRect n h) (ix2 k d) = X (ix2 k (col b d)) := congrArg X (headRect_emb n h b hn k d)

/-- A branch's rows of the gate weight, loaded. -/
theorem ld_part (W : FVec Ideal S3072x1024 .bf16) (n : Nat) (h : ∀ a, (![n, 0] : Fin 2 → Nat) a + ![1024, 1024] a ≤ S3072x1024.size a) (b : Fin 3)
    (hn : n = 1024 * b.1) (l u : Fin 1024) : View.ld (Val := Elt Ideal) (e' := .bf16) W (Rect.unit (s := S3072x1024) ![n, 0] ![1024, 1024] h) (ix2 l u) = part W b l u := by
  subst hn
  refine congrArg W ?_
  funext a
  apply Fin.ext
  erw [Rect.emb_apply]
  fin_cases a
  · simp
  · simp

/-- The columns of a head, read in the scratch where its last write put them, -/
theorem canon_head_on (n : Nat) (h) (b : Fin 4) (hn : n = b.1 * 128) (w : FVec Ideal S256x128 .bf16)
    (L : List (View.Piece (Elt Ideal) S256x512 .bf16)) (k : Fin 256) (d : Fin 128) :
    View.canon (⟨headRect n h, w⟩ :: L) (ix2 k (col b d)) = w (ix2 k d) := by
  rw [← headRect_emb n h b hn]
  exact View.canon_cons_emb _ _ _ _

/-- and past the write of a later head. -/
theorem canon_head_off (n : Nat) (h) (b : Fin 4) (hn : b.1 * 128 + 128 ≤ n) (w : FVec Ideal S256x128 .bf16)
    (L : List (View.Piece (Elt Ideal) S256x512 .bf16)) (k : Fin 256) (d : Fin 128) :
    View.canon (⟨headRect n h, w⟩ :: L) (ix2 k (col b d)) = View.canon L (ix2 k (col b d)) := by
  refine View.canon_cons_of_not_mem _ _ fun hm => ?_
  have := ((Rect.mem_set_unit (inb := h)).mp hm 1).1
  have hd := d.2
  change n ≤ b.1 * 128 + d.1 at this
  omega

/-- Four heads' writes, last first. -/
theorem canon_heads (p0 p1 p2 p3 : FVec Ideal S256x128 .bf16) (h0) (h1) (h2) (h3) (key : Fin 4 → Fin 128 → EReal) (k : Fin 256)
    (e0 : ∀ d, p0 (ix2 k d) = key 0 d) (e1 : ∀ d, p1 (ix2 k d) = key 1 d) (e2 : ∀ d, p2 (ix2 k d) = key 2 d)
    (e3 : ∀ d, p3 (ix2 k d) = key 3 d) (a : Fin 4) (d : Fin 128) :
    View.canon (Val := Elt Ideal) (e := .bf16) [⟨headRect 384 h3, p3⟩, ⟨headRect 256 h2, p2⟩, ⟨headRect 128 h1, p1⟩, ⟨headRect 0 h0, p0⟩]
      (ix2 k (col a d)) = key a d := by
  match a with
  | 0 => rw [canon_head_off, canon_head_off, canon_head_off, canon_head_on, e0] <;> decide
  | 1 => rw [canon_head_off, canon_head_off, canon_head_on, e1] <;> decide
  | 2 => rw [canon_head_off, canon_head_on, e2] <;> decide
  | 3 => rw [canon_head_on, e3]; decide

/-- At a batch's first point the second scratch is left holding the values. -/
theorem values_even (c : Dev nD) (t : Fin cfg0.N) (h : t.val % 2 = 0) (k : Fin 256) (j : Fin 512) :
    (outsAt0 m c t.val t.isLt).2.2 (ix2 k j) = heldVal (iblk m c 3 t) (iblk m c 12 t) (iblk m c 13 t) k j := by
  rw [outsAt0_A m c t h]
  frame_open
  simp (disch := decide) only [↓ View.readCov_skip, ↓ View.readCov_cons_toLoadRect, ↓ View.readCov_fill]
  frame_out
  refine (pay11_apply (v201 := k0_pay2 (iblk m c 3 t) (iblk m c 12 t) (iblk m c 13 t)) k j).trans ?_
  rw [pay2_apply]
  rfl

/-- At a batch's first point the first scratch is left holding every head's keys. -/
theorem keys_even (c : Dev nD) (t : Fin cfg0.N) (h : t.val % 2 = 0) (k : Fin 256) (a : Fin 4) (d : Fin 128) :
    (outsAt0 m c t.val t.isLt).2.1 (ix2 k (col a d))
      = heldKey (iblk m c 3 t) (iblk m c 12 t) (iblk m c 13 t) (iblk m c 14 t) k a d := by
  rw [outsAt0_A m c t h]
  frame_open
  simp (disch := decide) only [↓ View.readCov_skip, ↓ View.readCov_cons_toLoadRect, ↓ View.readCov_fill]
  frame_out
  refine canon_heads _ _ _ _ _ _ _ _ (fun a d => heldKey _ _ _ _ k a d) k ?_ ?_ ?_ ?_ a d <;> intro d
  · refine (pay3_apply (v182 := iblk m c 3 t) (v184 := iblk m c 12 t) (v199 := iblk m c 13 t) (v203 := iblk m c 14 t) k d).trans ?_
    simp only [pay2_apply]; rfl
  · refine (pay5_apply (v182 := iblk m c 3 t) (v184 := iblk m c 12 t) (v199 := iblk m c 13 t) (v203 := iblk m c 14 t) k d).trans ?_
    simp only [pay2_apply]; rfl
  · refine (pay6_apply (v201 := k0_pay2 (iblk m c 3 t) (iblk m c 12 t) (iblk m c 13 t)) (v203 := iblk m c 14 t) k d).trans ?_
    simp only [pay2_apply]; rfl
  · refine (pay10_apply (v201 := k0_pay2 (iblk m c 3 t) (iblk m c 12 t) (iblk m c 13 t)) (v203 := iblk m c 14 t) k d).trans ?_
    simp only [pay2_apply]; rfl

/-- The memory block of a batch's second point is the one of its first, and so are the other blocks the keys and values come from. -/
theorem held_prev (c : Dev nD) (t p : Fin cfg0.N) (h : t.val / 2 = p.val / 2) : iblk m c 3 t = iblk m c 3 p ∧ iblk m c 12 t = iblk m c 12 p
    ∧ iblk m c 13 t = iblk m c 13 p ∧ iblk m c 14 t = iblk m c 14 p := by
  refine ⟨?_, ?_, ?_, ?_⟩ <;> funext y
  · blk_ext [iblk, V, idx t, idx p, h]
  · blk_ext [iblk, V, idx t, idx p, h]
  · blk_ext [iblk, V, idx t, idx p, h]
  · blk_ext [iblk, V, idx t, idx p, h]

/-- The row a grid point stores, from the blocks it reads. -/
noncomputable def stored (c : Dev nD) (t : Fin cfg0.N) (r l : Fin 1024) : EReal :=
  mergeRow (fun u => iblk m c 0 t (ix3 0 r u)) (fun u => iblk m c 4 t (ix2 0 u)) (fun j => iblk m c 1 t (ix3 0 r j)) (fun j => iblk m c 2 t (ix3 0 r j))
    (fun k u => iblk m c 3 t (ix3 0 k u)) (fun u => iblk m c 12 t (ix2 0 u)) (fun j u => iblk m c 6 t (ix2 j u)) (part (iblk m c 5 t))
    (fun u j => iblk m c 13 t (ix2 u j)) (fun d => iblk m c 7 t (ix2 0 d)) (fun d => iblk m c 14 t (ix2 0 d)) (fun j u => iblk m c 8 t (ix2 j u))
    (fun j u => iblk m c 9 t (ix2 j u)) (fun j u => iblk m c 10 t (ix2 j u)) (fun j u => iblk m c 11 t (ix2 j u)) l

/-- A batch's first point stores its rows merged, -/
theorem out_even (c : Dev nD) (t : Fin cfg0.N) (h : t.val % 2 = 0) (hq : ∀ d, IsReal (iblk m c 7 t (ix2 0 d)))
    (hk : ∀ d, IsReal (iblk m c 14 t (ix2 0 d))) (r l : Fin 1024) :
    (outsAt0 m c t.val t.isLt).1 (ix3 0 r l) = stored m c t r l := by
  rw [outsAt0_A m c t h]
  frame_open
  simp (disch := decide) only [↓ View.readCov_skip, ↓ View.readCov_cons_toLoadRect, ↓ View.readCov_fill]
  frame_out
  have W : ∀ k j, k0_pay11 (F := Ideal) (k0_pay2 (iblk m c 3 t) (iblk m c 12 t) (iblk m c 13 t)) (ix2 k j)
      = heldVal (iblk m c 3 t) (iblk m c 12 t) (iblk m c 13 t) k j := fun k j => by rw [pay11_apply, pay2_apply]; rfl
  refine (block_apply _ _ _ _ _ _ _ _ _ _ _ _ _ _ _ _ _ _ _ _ _ (heldKey (iblk m c 3 t) (iblk m c 12 t) (iblk m c 13 t) (iblk m c 14 t))
    (heldVal (iblk m c 3 t) (iblk m c 12 t) (iblk m c 13 t)) (part (iblk m c 5 t)) hq (fun _ h d => isReal_headKey _ hk h d)
    ?_ ?_ ?_ ?_ ?_ ?_ ?_ ?_ ?_ ?_ ?_ r l).trans rfl <;> intro a b
  · refine (pay3_apply (v182 := iblk m c 3 t) (v184 := iblk m c 12 t) (v199 := iblk m c 13 t) (v203 := iblk m c 14 t) a b).trans ?_
    simp only [pay2_apply]; rfl
  · refine (pay5_apply (v182 := iblk m c 3 t) (v184 := iblk m c 12 t) (v199 := iblk m c 13 t) (v203 := iblk m c 14 t) a b).trans ?_
    simp only [pay2_apply]; rfl
  · refine (pay6_apply (v201 := k0_pay2 (iblk m c 3 t) (iblk m c 12 t) (iblk m c 13 t)) (v203 := iblk m c 14 t) a b).trans ?_
    simp only [pay2_apply]; rfl
  · refine (pay10_apply (v201 := k0_pay2 (iblk m c 3 t) (iblk m c 12 t) (iblk m c 13 t)) (v203 := iblk m c 14 t) a b).trans ?_
    simp only [pay2_apply]; rfl
  · exact (ld_head _ 0 _ 0 rfl a b).trans (W a _)
  · exact (ld_head _ 128 _ 1 rfl a b).trans (W a _)
  · exact (ld_head _ 256 _ 2 rfl a b).trans (W a _)
  · exact (ld_head _ 384 _ 3 rfl a b).trans (W a _)
  · exact ld_part _ 0 _ 0 rfl a b
  · exact ld_part _ 1024 _ 1 rfl a b
  · exact ld_part _ 2048 _ 2 rfl a b

/-- and so does its second, with the keys and values the first one left. -/
theorem out_odd (c : Dev nD) (t : Fin cfg0.N) (h : t.val % 2 = 1) (hq : ∀ d, IsReal (iblk m c 7 t (ix2 0 d)))
    (hk : ∀ d, IsReal (iblk m c 14 t (ix2 0 d))) (r l : Fin 1024) :
    (outsAt0 m c t.val t.isLt).1 (ix3 0 r l) = stored m c t r l := by
  rw [outsAt0_B m c t (by omega)]
  frame_out
  simp only [read_unread_whole]
  have hp : t.val - 1 < cfg0.N := by omega
  obtain ⟨e3, e12, e13, e14⟩ := held_prev m c t ⟨t.val - 1, hp⟩ (by simp only; omega)
  have K := keys_even m c ⟨t.val - 1, hp⟩ (by simp only; omega)
  have W := values_even m c ⟨t.val - 1, hp⟩ (by simp only; omega)
  rw [← e3, ← e12, ← e13] at W
  rw [← e3, ← e12, ← e13, ← e14] at K
  refine (block_apply _ _ _ _ _ _ _ _ _ _ _ _ _ _ _ _ _ _ _ _ _ (heldKey (iblk m c 3 t) (iblk m c 12 t) (iblk m c 13 t) (iblk m c 14 t))
    (heldVal (iblk m c 3 t) (iblk m c 12 t) (iblk m c 13 t)) (part (iblk m c 5 t)) hq (fun _ h d => isReal_headKey _ hk h d)
    ?_ ?_ ?_ ?_ ?_ ?_ ?_ ?_ ?_ ?_ ?_ r l).trans rfl <;> intro a b
  · exact (ld_head _ 0 _ 0 rfl a b).trans (K a _ _)
  · exact (ld_head _ 128 _ 1 rfl a b).trans (K a _ _)
  · exact (ld_head _ 256 _ 2 rfl a b).trans (K a _ _)
  · exact (ld_head _ 384 _ 3 rfl a b).trans (K a _ _)
  · exact (ld_head _ 0 _ 0 rfl a b).trans (W a _)
  · exact (ld_head _ 128 _ 1 rfl a b).trans (W a _)
  · exact (ld_head _ 256 _ 2 rfl a b).trans (W a _)
  · exact (ld_head _ 384 _ 3 rfl a b).trans (W a _)
  · exact ld_part _ 0 _ 0 rfl a b
  · exact ld_part _ 1024 _ 1 rfl a b
  · exact ld_part _ 2048 _ 2 rfl a b

/-- The result array as one function of the fourteen argument arrays. -/
noncomputable def G (x0 : FVec Ideal ⟨3, ![8, 2048, 1024]⟩ .f32) (x1 x2 : FVec Ideal ⟨3, ![8, 2048, 512]⟩ .bf16)
    (x3 : FVec Ideal ⟨3, ![8, 256, 1024]⟩ .f32) (x4 : FVec Ideal ⟨2, ![1024, 5832]⟩ .f32) (x5 x6 : FVec Ideal ⟨1, ![1024]⟩ .f32)
    (x7 : FVec Ideal ⟨2, ![1024, 1024]⟩ .f32) (x8 x9 : FVec Ideal ⟨1, ![128]⟩ .f32) (x10 x11 x12 : FVec Ideal ⟨2, ![512, 1024]⟩ .f32)
    (x13 : FVec Ideal ⟨2, ![1024, 1024]⟩ .f32) : FVec Ideal ⟨3, ![8, 2048, 1024]⟩ .f32 := fun i =>
  mergeRow (fun t => x0 (ix3 (i 0) (i 1) t)) (fun t => x5 (ix1 t)) (fun j => x1 (ix3 (i 0) (i 1) j)) (fun j => x2 (ix3 (i 0) (i 1) j))
    (fun k t => x3 (ix3 (i 0) k t)) (fun t => x6 (ix1 t)) (queryWeight x4) (gateWeight x4) (fun t j => x7 (ix2 t j)) (fun d => x8 (ix1 d))
    (fun d => x9 (ix1 d)) (fun j t => x10 (ix2 j t)) (fun j t => x11 (ix2 j t)) (fun j t => x12 (ix2 j t)) (fun j t => x13 (ix2 j t)) (i 2)

/-! Each window's block, read at an index, in the argument arrays. -/

section Reads
variable (c : Dev nD) (t : Fin cfg0.N)

theorem batch_lt : t.val / 2 < 8 := by have := lt_of_lt_of_eq t.isLt (show cfg0.N = 16 from N_0); omega

theorem row_lt (r : Fin 1024) : t.val % 2 * 1024 + r.val < 2048 := by omega

theorem read0 (r u : Fin 1024) : iblk m c 0 t (ix3 0 r u) = m ((c : Thread nD τ).loc main_arg0) (ix3 ⟨t.val / 2, batch_lt t⟩ ⟨t.val % 2 * 1024 + r.val, row_lt t r⟩ u) := by
  blk_ext [iblk, V, idx t]

theorem read1 (r : Fin 1024) (u : Fin 512) : iblk m c 1 t (ix3 0 r u) = m ((c : Thread nD τ).loc main_arg1) (ix3 ⟨t.val / 2, batch_lt t⟩ ⟨t.val % 2 * 1024 + r.val, row_lt t r⟩ u) := by
  blk_ext [iblk, V, idx t]

theorem read2 (r : Fin 1024) (u : Fin 512) : iblk m c 2 t (ix3 0 r u) = m ((c : Thread nD τ).loc main_arg2) (ix3 ⟨t.val / 2, batch_lt t⟩ ⟨t.val % 2 * 1024 + r.val, row_lt t r⟩ u) := by
  blk_ext [iblk, V, idx t]

theorem read3 (k : Fin 256) (u : Fin 1024) : iblk m c 3 t (ix3 0 k u) = m ((c : Thread nD τ).loc main_arg3) (ix3 ⟨t.val / 2, batch_lt t⟩ k u) := by
  blk_ext [iblk, V, idx t]

theorem read4 (u : Fin 1024) : iblk m c 4 t (ix2 0 u) = m ((c : Thread nD τ).loc main_arg5) (ix1 u) := by
  blk_ext! [iblk, V, idx t]

theorem read5 (i : Fin 3) (l u : Fin 1024) : iblk m c 5 t (ix2 ⟨1024 * i.val + l.val, by omega⟩ u) = m ((c : Thread nD τ).loc main_arg4) (ix2 u ⟨2760 + (1024 * i.val + l.val), by omega⟩) := by
  have e : (win0_5.blk t).view.emb (ix2 (⟨1024 * i.val + l.val, by omega⟩ : Fin 3072) u) = ix2 ⟨1024 * i.val + l.val, by omega⟩ u := by blk_ext [idx t]
  refine (congrArg (V m c main_v4) e).trans ?_
  change truncf (F := Ideal) .bf16 (extractStridedSlice S3072x1024 ![2760, 0] (transpose S5832x1024 [1, 0] (m ((c : Thread nD τ).loc main_arg4))
    Facts₀.transposes_S1024x5832_S5832x1024_1_0) Facts₀.slices_S5832x1024_S3072x1024_2760_0) Facts₀.bitsLt_bf16_f32 _ = _
  pointwise []

theorem read6 (j : Fin 512) (u : Fin 1024) : iblk m c 6 t (ix2 j u) = m ((c : Thread nD τ).loc main_arg4) (ix2 u ⟨2248 + j.val, by omega⟩) := by
  have e : (win0_6.blk t).view.emb (ix2 j u) = ix2 j u := by blk_ext [idx t]
  refine (congrArg (V m c main_v2) e).trans ?_
  change truncf (F := Ideal) .bf16 (extractStridedSlice S512x1024 ![2248, 0] (transpose S5832x1024 [1, 0] (m ((c : Thread nD τ).loc main_arg4))
    Facts₀.transposes_S1024x5832_S5832x1024_1_0) Facts₀.slices_S5832x1024_S512x1024_2248_0) Facts₀.bitsLt_bf16_f32 _ = _
  pointwise []

theorem read7 (d : Fin 128) : iblk m c 7 t (ix2 0 d) = m ((c : Thread nD τ).loc main_arg8) (ix1 d) := by
  blk_ext! [iblk, V, idx t]

theorem read8 (j : Fin 512) (u : Fin 1024) : iblk m c 8 t (ix2 j u) = m ((c : Thread nD τ).loc main_arg10) (ix2 j u) := by
  blk_ext [iblk, V, idx t]

theorem read9 (j : Fin 512) (u : Fin 1024) : iblk m c 9 t (ix2 j u) = m ((c : Thread nD τ).loc main_arg11) (ix2 j u) := by
  blk_ext [iblk, V, idx t]

theorem read10 (j : Fin 512) (u : Fin 1024) : iblk m c 10 t (ix2 j u) = m ((c : Thread nD τ).loc main_arg12) (ix2 j u) := by
  blk_ext [iblk, V, idx t]

theorem read11 (j u : Fin 1024) : iblk m c 11 t (ix2 j u) = m ((c : Thread nD τ).loc main_arg13) (ix2 j u) := by
  blk_ext [iblk, V, idx t]

theorem read12 (u : Fin 1024) : iblk m c 12 t (ix2 0 u) = m ((c : Thread nD τ).loc main_arg6) (ix1 u) := by
  blk_ext! [iblk, V, idx t]

theorem read13 (j u : Fin 1024) : iblk m c 13 t (ix2 j u) = m ((c : Thread nD τ).loc main_arg7) (ix2 j u) := by
  blk_ext [iblk, V, idx t]

theorem read14 (d : Fin 128) : iblk m c 14 t (ix2 0 d) = m ((c : Thread nD τ).loc main_arg9) (ix1 d) := by
  blk_ext! [iblk, V, idx t]

theorem write15 (r l : Fin 1024) : (win0_15.blk t).view.emb (ix3 0 r l) = ix3 ⟨t.val / 2, batch_lt t⟩ ⟨t.val % 2 * 1024 + r.val, row_lt t r⟩ l := by
  blk_ext [idx t]

end Reads

/-- After the run the result array is `G` of the arguments, if the query and key gains are real. -/
theorem final (c : Dev nD) (hq : ∀ d, IsReal (m ((c : Thread nD τ).loc main_arg8) (ix1 d))) (hk : ∀ d, IsReal (m ((c : Thread nD τ).loc main_arg9) (ix1 d))) :
    (dats m 0 c).arrAt 15 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) := by
  refine (dats m 0 c).arrAt_eq_of_covers 15 _ (by decide +kernel) fun t hf y => ?_
  have hq' : ∀ d, IsReal (iblk m c 7 t (ix2 0 d)) := fun d => (read7 m c t d).symm ▸ hq d
  have hk' : ∀ d, IsReal (iblk m c 14 t (ix2 0 d)) := fun d => (read14 m c t d).symm ▸ hk d
  obtain ⟨z, r, l, rfl⟩ : ∃ (z : Fin 1) (r l : Fin 1024), y = ix3 z r l := ⟨y 0, y 1, y 2, eq_ix3 y⟩
  obtain rfl : z = 0 := Subsingleton.elim _ _
  blk_simp
  rw [after0_15]
  have out : (outsAt0 m c t.val t.isLt).1 (ix3 0 r l) = stored m c t r l := by
    by_cases h : t.val % 2 = 0
    · exact out_even m c t h hq' hk' r l
    · exact out_odd m c t (by omega) hq' hk' r l
  refine out.trans ?_
  refine Eq.trans ?_ (congrArg (G _ _ _ _ _ _ _ _ _ _ _ _ _ _) (write15 t r l).symm)
  unfold stored G part
  simp only [read0, read1, read2, read3, read4, read5, read6, read7, read8, read9, read10, read11, read12, read13, read14]
  rfl

end Cert.Merge

end
-- ==== Proof.MergeReferenceRow.lean ====
module

public import proofs.«01_k».proof.Proof.MergeReference

/-! The reference's merge, row by row: the cross attention, and the whole row. -/

@[expose] public section

namespace Cert.Merge
open Idealize.ShloMosaic Cert.Rows Cert.ReferenceIdeal.Read
set_option maxRecDepth 16384

variable (x0 : FVec Ideal ⟨3, ![8, 2048, 1024]⟩ .f32) (x1 x2 : FVec Ideal ⟨3, ![8, 2048, 512]⟩ .bf16) (x3 : FVec Ideal ⟨3, ![8, 256, 1024]⟩ .f32)
  (x4 : FVec Ideal ⟨2, ![1024, 5832]⟩ .f32) (x5 x6 : FVec Ideal ⟨1, ![1024]⟩ .f32) (x7 : FVec Ideal ⟨2, ![1024, 1024]⟩ .f32)
  (x8 x9 : FVec Ideal ⟨1, ![128]⟩ .f32) (x10 x11 x12 : FVec Ideal ⟨2, ![512, 1024]⟩ .f32) (x13 : FVec Ideal ⟨2, ![1024, 1024]⟩ .f32)

/-- The cross attention, heads beside one another. -/
theorem ref_cross (b : Fin 8) (s : Fin 2048) (h : Fin 4) (d : Fin 128) :
    val_main_v81 (F := Ideal) x0 x3 x4 x5 x6 x7 x8 x9 (ix3 b s (col h d))
      = cross (query (fun t => x0 (ix3 b s t)) (fun t => x5 (ix1 t)) (queryWeight x4)) (fun d => x8 (ix1 d))
          (fun k => headKey (keyVal (fun t => x3 (ix3 b k t)) (fun t => x6 (ix1 t)) (fun t j => x7 (ix2 t j))) (fun d => x9 (ix1 d)))
          (fun k j => keyVal (fun t => x3 (ix3 b k t)) (fun t => x6 (ix1 t)) (fun t j => x7 (ix2 t j)) (valCol j)) h d := by
  have e : val_main_v81 (F := Ideal) x0 x3 x4 x5 x6 x7 x8 x9 (ix3 b s (col h d))
      = ∑ k, val_main_v63 (F := Ideal) x3 x6 x7 (ix4 b k h d) * val_main_v78 (F := Ideal) x0 x3 x4 x5 x6 x7 x8 x9 (ix4 b h s k) := by
    pointwise [val_main_v81, val_main_v80, val_main_v79, col]
  rw [e]
  simp only [ref_weight, ref_logit, ref_headQuery, ref_headKey, ref_splitVal, ref_keyVal]
  exact Finset.sum_congr rfl fun k _ => mul_comm _ _

/-- The reference's result at row `s` of batch `b`. -/
theorem reference_apply (b : Fin 8) (s : Fin 2048) (l : Fin 1024) :
    val_main_v100 (F := Ideal) x0 x1 x2 x3 x4 x5 x6 x7 x8 x9 x10 x11 x12 x13 (ix3 b s l)
      = mergeRow (fun t => x0 (ix3 b s t)) (fun t => x5 (ix1 t)) (fun j => x1 (ix3 b s j)) (fun j => x2 (ix3 b s j)) (fun k t => x3 (ix3 b k t))
          (fun t => x6 (ix1 t)) (queryWeight x4) (gateWeight x4) (fun t j => x7 (ix2 t j)) (fun d => x8 (ix1 d)) (fun d => x9 (ix1 d))
          (fun j t => x10 (ix2 j t)) (fun j t => x11 (ix2 j t)) (fun j t => x12 (ix2 j t)) (fun j t => x13 (ix2 j t)) l := by
  unfold mergeRow combine gate
  simp only [← eq_flat (g := fun j => val_main_v81 (F := Ideal) x0 x3 x4 x5 x6 x7 x8 x9 (ix3 b s j))
    (fun a d => ref_cross x0 x3 x4 x5 x6 x7 x8 x9 b s a d)]
  pointwise [val_main_v100, val_main_v99, val_main_v98, val_main_v97, val_main_v96, val_main_v95, val_main_v94, val_main_v93, val_main_v92,
    val_main_v91, val_main_v90, val_main_v89, val_main_v88, val_main_v0, val_main_v1]
  simp only [ref_gate]
  pointwise [gateWeight]

end Cert.Merge

end
-- ==== Proof.MergeClaims.lean ====
module

public import proofs.«01_k».proof.Defs
public import proofs.«01_k».proof.Proof.Gains
public import proofs.«01_k».proof.Proof.MergeArray
public import proofs.«01_k».proof.Proof.MergeReferenceRow
public import proofs.«01_k».proof.Proof.Gen.Kernel.Frame
public import proofs.«01_k».proof.Proof.Gen.ReferenceIdeal.Run

/-! The claims about the merge call. -/

@[expose] public section

set_option maxRecDepth 16384

namespace Cert.Merge
open Idealize.ShloMosaic Idealize.SL.Sem Cert.Rows

theorem frame : Cert.quiescent_Kernel := fun m ρ _ => Cert.Kernel.Gen.frame m ρ

theorem frame_ideal : Cert.quiescent_KernelIdeal := fun m ρ _ => Cert.KernelIdeal.Gen.frame m ρ

/-- The reference runs on the host and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ideal_pre : Cert.quiescent_KernelIdeal_pre_finite_gains := fun m ρ _ => Cert.KernelIdeal.Gen.frame m ρ

theorem frame_reference_pre : Cert.quiescent_ReferenceIdeal_pre_finite_gains := fun m ρ _ => frame_reference m ρ trivial

/-- The one literal that is named stands for its name. -/
theorem preserves : Cert.preserves_Kernel_KernelIdeal :=
  IdealRules.named_const.statement Cert.KernelIdeal.κ "inv_sqrt_d" .f32 0x3DB504F3#32 (((Real.sqrt 128)⁻¹ : ℝ) : EReal) rfl

/-- The value both programs end with, in the kernel's arguments. -/
noncomputable def value (m : (ℓ : Loc Cert.KernelIdeal.nD Cert.KernelIdeal.τ Cert.KernelIdeal.sig) → Buf (Elt Ideal) ℓ) (c : Dev Cert.KernelIdeal.nD) :=
  G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))

/-- The kernel's result array and the reference's are both `G` of arguments that agree. -/
theorem algebraic : Cert.algebraic_KernelIdeal_ReferenceIdeal_pre_finite_gains := by
  intro m ρ m' ρ' hpre hagree
  refine ⟨value m, ?_, ?_⟩
  · have hg := fun c d => Cert.Gains.isReal_gains _ _ _ _ _ _ _ _ _ _ _ _ _ _ (hpre c) d
    exact (θ_run Cert.KernelIdeal.defs _ _).mono (fun r h c => ⟨(h c).1.trans (final m c (fun d => (hg c d).1) fun d => (hg c d).2), (h c).2⟩)
      (Cert.KernelIdeal.Value.run_blocks (F := Ideal) m ρ)
  · refine (θ_run Cert.ReferenceIdeal.defs _ _).mono (fun r h c => ⟨(h c).1.trans ?_, (h c).2⟩) (Cert.ReferenceIdeal.Value.run (F := Ideal) m' ρ')
    rw [Cert.ReferenceIdeal.Read.val_main_v100_eq]
    obtain ⟨h0, h1, h2, h3, h4, h5, h6, h7, h8, h9, h10, h11, h12, h13⟩ := hagree c
    rw [h0, h1, h2, h3, h4, h5, h6, h7, h8, h9, h10, h11, h12, h13]
    funext i
    obtain ⟨b, s, l, rfl⟩ : ∃ (b : Fin 8) (s : Fin 2048) (l : Fin 1024), i = ix3 b s l := ⟨i 0, i 1, i 2, eq_ix3 i⟩
    exact reference_apply _ _ _ _ _ _ _ _ _ _ _ _ _ _ b s l

end Cert.Merge

end
-- ==== Proof.FfnBlock.lean ====
module

public import proofs.«01_k».proof.Proof.Gen.Kernel2Ideal.Skeleton
public import proofs.«01_k».proof.Proof.RowNorm

/-! What the feed-forward call computes of one block of 512 rows, each row by itself. -/

@[expose] public section

namespace Cert.Ffn
open Idealize.ShloMosaic Cert.Rows
set_option maxRecDepth 16384

/-- One row of the feed-forward network at column `l`: the row plus `(silu (h W_gate) * (h W_up)) W_down`, where `h` is the row's RMS norm and
    `silu a = a * logistic a`. -/
noncomputable def ffn (x g : Fin 1024 → EReal) (wg wu : Fin 1024 → Fin 2816 → EReal) (wd : Fin 2816 → Fin 1024 → EReal) (l : Fin 1024) : EReal :=
  x l + ∑ j, ((∑ t, rms x g t * wg t j) * Ideal.logistic (∑ t, rms x g t * wg t j) * ∑ t, rms x g t * wu t j) * wd j l

/-- The block the kernel stores holds at row `r` the feed-forward network of row `r` of the block it loaded. -/
theorem pay_apply (v0 : FVec Ideal ⟨2, ![512, 1024]⟩ .f32) (v1 : FVec Ideal ⟨2, ![1, 1024]⟩ .f32)
    (v16 v19 : FVec Ideal ⟨2, ![1024, 2816]⟩ .bf16) (v26 : FVec Ideal ⟨2, ![2816, 1024]⟩ .bf16) (r : Fin 512) (l : Fin 1024) :
    Cert.Kernel2Ideal.Gen.k0_pay1 (F := Ideal) v0 v1 v16 v19 v26 (ix2 r l)
      = ffn (fun t => v0 (ix2 r t)) (fun t => v1 (ix2 0 t)) (fun t j => v16 (ix2 t j)) (fun t j => v19 (ix2 t j)) (fun j t => v26 (ix2 j t)) l := by
  pointwise [Cert.Kernel2Ideal.Gen.k0_pay1]
  rfl

end Cert.Ffn

end
-- ==== Proof.FfnArray.lean ====
module

public import proofs.«01_k».proof.Proof.Gen.Kernel2Ideal.Value
public import proofs.«01_k».proof.Proof.FfnBlock
public import Idealize.ShloMosaic.Lib.Pipeline.ValueKit

/-! The feed-forward call's result array after its run, row by row. -/

@[expose] public section

namespace Cert.Ffn
open Cert.Kernel2Ideal Cert.Kernel2Ideal.Gen Idealize.ShloMosaic Idealize.ShloMosaic.TcCoe Cert.Rows
set_option maxRecDepth 16384

variable (m : (ℓ : Loc nD τ sig) → Buf (Elt Ideal) ℓ)

/-- The result array as one function of the five argument arrays. -/
noncomputable def G (x : FVec Ideal ⟨2, ![16384, 1024]⟩ .f32) (g : FVec Ideal ⟨1, ![1024]⟩ .f32) (wg wu : FVec Ideal ⟨2, ![1024, 2816]⟩ .f32)
    (wd : FVec Ideal ⟨2, ![2816, 1024]⟩ .f32) : FVec Ideal ⟨2, ![16384, 1024]⟩ .f32 := fun i =>
  ffn (fun t => x (ix2 (i 0) t)) (fun t => g (ix1 t)) (fun t j => wg (ix2 t j)) (fun t j => wu (ix2 t j)) (fun j t => wd (ix2 j t)) (i 1)

/-- Each window's block index at a grid point: the rows' windows move with the point, the weights' do not. -/
theorem idx (t : Fin cfg0.N) : win0_0.index t = ![t.val, 0] ∧ win0_1.index t = ![0, 0] ∧ win0_2.index t = ![0, 0] ∧ win0_3.index t = ![0, 0]
    ∧ win0_4.index t = ![0, 0] ∧ win0_5.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![t.val, 0]) t

/-- After the run the result array is `G` of the arguments. -/
theorem final (c : Dev nD) : (dats m 0 c).arrAt 5 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5]
  frame_out
  obtain ⟨r, l, rfl⟩ : ∃ (r : Fin 512) (l : Fin 1024), y = ix2 r l := ⟨y 0, y 1, eq_ix2 y⟩
  refine (pay_apply _ _ _ _ _ r l).trans ?_
  unfold G
  congr 1
  · funext k; blk_ext [iblk, V, idx t]
  · funext k; blk_ext! [iblk, V, idx t]
  · funext k j; blk_ext [iblk, V, idx t]
  · funext k j; blk_ext [iblk, V, idx t]
  · funext k j; blk_ext [iblk, V, idx t]
  · apply Fin.ext; blk_simp [idx t]

end Cert.Ffn

end
-- ==== Proof.FfnReference.lean ====
module

public import proofs.«01_k».proof.Proof.Gen.Reference2Ideal.Read
public import proofs.«01_k».proof.Proof.FfnBlock

/-! What the reference's feed-forward network computes, row by row. -/

@[expose] public section

namespace Cert.Ffn
open Idealize.ShloMosaic Cert.Rows Cert.Reference2Ideal.Read
set_option maxRecDepth 16384

/-- The reference's result at row `r` is the feed-forward network of row `r`. -/
theorem reference_apply (x0 : FVec Ideal ⟨2, ![16384, 1024]⟩ .f32) (x1 : FVec Ideal ⟨1, ![1024]⟩ .f32)
    (x2 x3 : FVec Ideal ⟨2, ![1024, 2816]⟩ .f32) (x4 : FVec Ideal ⟨2, ![2816, 1024]⟩ .f32) (r : Fin 16384) (l : Fin 1024) :
    val_main_v18 (F := Ideal) x0 x1 x2 x3 x4 (ix2 r l)
      = ffn (fun t => x0 (ix2 r t)) (fun t => x1 (ix1 t)) (fun t j => x2 (ix2 t j)) (fun t j => x3 (ix2 t j)) (fun j t => x4 (ix2 j t)) l := by
  pointwise [val_main_v18, val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_v0, val_main_cst, val_main_cst_0,
    val_main_cst_1, val_main_call0_v5, val_main_call0_v4, val_main_call0_v3, val_main_call0_v2, val_main_call0_v1, val_main_call0_v0,
    val_main_call0_cst, val_main_call0_cst_0]
  rfl

end Cert.Ffn

end
-- ==== Proof.FfnClaims.lean ====
module

public import proofs.«01_k».proof.Defs
public import proofs.«01_k».proof.Proof.FfnArray
public import proofs.«01_k».proof.Proof.FfnReference
public import proofs.«01_k».proof.Proof.Gen.Kernel2.Frame
public import proofs.«01_k».proof.Proof.Gen.Reference2Ideal.Run

/-! The claims about the feed-forward call. -/

@[expose] public section

set_option maxRecDepth 16384

namespace Cert.Ffn
open Idealize.ShloMosaic Idealize.SL.Sem Cert.Rows

theorem frame : Cert.quiescent_Kernel2 := fun m ρ _ => Cert.Kernel2.Gen.frame m ρ

theorem frame_ideal : Cert.quiescent_Kernel2Ideal := fun m ρ _ => Cert.Kernel2Ideal.Gen.frame m ρ

/-- The reference runs on the host and declares no semaphore. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem preserves : Cert.preserves_Kernel2_Kernel2Ideal := trivial

/-- The value both programs end with, in the kernel's arguments. -/
noncomputable def value (m : (ℓ : Loc Cert.Kernel2Ideal.nD Cert.Kernel2Ideal.τ Cert.Kernel2Ideal.sig) → Buf (Elt Ideal) ℓ) (c : Dev Cert.Kernel2Ideal.nD) :=
  G (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))

/-- The kernel's result array and the reference's are both `G` of arguments that agree. -/
theorem algebraic : Cert.algebraic_Kernel2Ideal_Reference2Ideal := by
  intro m ρ m' ρ' _ hagree
  refine ⟨value m, ?_, ?_⟩
  · exact (θ_run Cert.Kernel2Ideal.defs _ _).mono (fun r h c => ⟨(h c).1.trans (final m c), (h c).2⟩)
      (Cert.Kernel2Ideal.Value.run_blocks (F := Ideal) m ρ)
  · refine (θ_run Cert.Reference2Ideal.defs _ _).mono (fun r h c => ⟨(h c).1.trans ?_, (h c).2⟩) (Cert.Reference2Ideal.Value.run (F := Ideal) m' ρ')
    rw [Cert.Reference2Ideal.Read.val_main_v18_eq]
    obtain ⟨h0, h1, h2, h3, h4⟩ := hagree c
    rw [h0, h1, h2, h3, h4]
    funext i
    obtain ⟨r, l, rfl⟩ : ∃ (r : Fin 16384) (l : Fin 1024), i = ix2 r l := ⟨i 0, i 1, eq_ix2 i⟩
    exact reference_apply _ _ _ _ _ r l

end Cert.Ffn

end
-- ==== Proof.InprojBlock.lean ====
module

public import proofs.«01_k».proof.Proof.Gen.Kernel3Ideal.Skeleton
public import proofs.«01_k».proof.Proof.RowNorm

/-! What the input projection computes of one block of 1024 rows: what it stores, entry by entry. -/

@[expose] public section

namespace Cert.Inproj
open Idealize.ShloMosaic Cert.Rows Cert.Kernel3Ideal.Gen
set_option maxRecDepth 16384

/-- A row's RMS norm times one column of the input projection. -/
noncomputable def lin (x g w : Fin 1024 → EReal) : EReal := ∑ t, rms x g t * w t

/-- Column `j` of the head that column `e` of the queries lies in. -/
def headCol (e : Fin 1024) (j : Fin 128) : Fin 1024 := ⟨e / 128 * 128 + j, by omega⟩

/-- The place of column `e` of the queries within its head. -/
def inHead (e : Fin 1024) : Fin 128 := ⟨e % 128, by omega⟩

/-- Row `n + e` of the 256 rows that hold the latent, the index key and the index weight side by side. -/
def at256 (n : Nat) {k : Nat} (e : Fin k) (h : n + k ≤ 256) : Fin 256 := ⟨n + e, by omega⟩

variable (v0 : FVec Ideal ⟨3, ![1, 1024, 1024]⟩ .f32) (v2 : FVec Ideal ⟨2, ![1, 1024]⟩ .f32) (w : FVec Ideal ⟨2, ![1024, 1024]⟩ .bf16)
  (gq : FVec Ideal ⟨2, ![128, 1]⟩ .f32) (wc : FVec Ideal ⟨2, ![256, 1024]⟩ .bf16) (gkv : FVec Ideal ⟨2, ![1, 128]⟩ .f32)
  (wi : FVec Ideal ⟨2, ![512, 1024]⟩ .bf16) (h : FVec Ideal ⟨2, ![1024, 1024]⟩ .bf16)

/-- The normalised rows. -/
theorem pay_norm (r k : Fin 1024) : k0_pay5 (F := Ideal) v0 v2 (ix2 r k) = rms (fun t => v0 (ix3 0 r t)) (fun t => v2 (ix2 0 t)) k := by
  pointwise [k0_pay5]
  rfl

/-- The normalised, scaled queries, feature by feature. -/
theorem pay_query (e r : Fin 1024) : k0_pay6 (F := Ideal) v0 v2 w gq (ix2 e r)
    = unitHead (fun j => ∑ t, k0_pay5 (F := Ideal) v0 v2 (ix2 r t) * w (ix2 (headCol e j) t)) (inHead e) * gq (ix2 (inHead e) 0) := by
  pointwise [k0_pay6, unitHead, unit, headCol, inHead]
  simp only [Nat.div_add_mod']

/-- The stored queries. -/
theorem pay_store (q : FVec Ideal ⟨2, ![1024, 1024]⟩ .bf16) (e r : Fin 1024) : k0_pay7 (F := Ideal) q (ix3 0 e r) = q (ix2 e r) := by
  pointwise [k0_pay7]

/-- The normalised latent. -/
theorem pay_latent (r : Fin 1024) (f : Fin 128) : k0_pay12 (F := Ideal) h wc gkv (ix2 r f)
    = unitHead (fun j => ∑ t, h (ix2 r t) * wc (ix2 (at256 0 j (by omega)) t)) f * gkv (ix2 0 f) := by
  pointwise [k0_pay12, k0_pay8, unitHead, unit, at256]

/-- The stored latent, row by row. -/
theorem pay_latentRow (r : Fin 1024) (f : Fin 128) :
    k0_pay13 (F := Ideal) h wc gkv (ix3 0 r f) = k0_pay12 (F := Ideal) h wc gkv (ix2 r f) := by
  pointwise [k0_pay13]

/-- The latent, feature by feature. -/
theorem pay_latentCol (f : Fin 128) (r : Fin 1024) :
    k0_pay14 (F := Ideal) h wc gkv (ix2 f r) = k0_pay12 (F := Ideal) h wc gkv (ix2 r f) := by
  pointwise [k0_pay14]

/-- The stored index keys. -/
theorem pay_indexKey (r : Fin 1024) (e : Fin 64) : k0_pay10 (F := Ideal) h wc (ix3 0 r e)
    = ∑ t, h (ix2 r t) * wc (ix2 (at256 128 e (by omega)) t) := by
  pointwise [k0_pay10, k0_pay9, k0_pay8, at256]

/-- The stored index weights. -/
theorem pay_indexWeight (e : Fin 16) (r : Fin 1024) : k0_pay11 (F := Ideal) h wc (ix3 0 e r)
    = ∑ t, h (ix2 r t) * wc (ix2 (at256 192 e (by omega)) t) := by
  pointwise [k0_pay11, k0_pay9, k0_pay8, at256]
  have s (n : Nat) : 128 + (64 + n) = 192 + n := by omega
  simp only [s]

/-- The stored index queries. -/
theorem pay_indexQuery (e : Fin 512) (r : Fin 1024) : k0_pay3 (F := Ideal) h wi (ix3 0 e r) = ∑ t, h (ix2 r t) * wi (ix2 e t) := by
  pointwise [k0_pay3]

/-- The stored inputs of the state space. -/
theorem pay_state (r : Fin 1024) (e : Fin 512) : k0_pay4 (F := Ideal) h wi (ix3 0 r e) = ∑ t, h (ix2 r t) * wi (ix2 e t) := by
  pointwise [k0_pay4]

/-- The four stored key tiles: 256 columns each of the latent, feature by feature. -/
theorem pay_tile0 (f : Fin 128) (s : Fin 256) : k0_pay16 (F := Ideal) (k0_pay15 h wc gkv) (ix4 0 0 f s)
    = k0_pay14 (F := Ideal) h wc gkv (ix2 f ⟨s, by omega⟩) := by
  pointwise [k0_pay16, k0_pay15]

theorem pay_tile1 (y : FVec Ideal ⟨2, ![128, 1024]⟩ .bf16) (f : Fin 128) (s : Fin 256) :
    k0_pay18 (F := Ideal) y (ix4 0 0 f s) = y (ix2 f ⟨256 + s, by omega⟩) := by
  pointwise [k0_pay18]

theorem pay_tile2 (y : FVec Ideal ⟨2, ![128, 1024]⟩ .bf16) (f : Fin 128) (s : Fin 256) :
    k0_pay20 (F := Ideal) y (ix4 0 0 f s) = y (ix2 f ⟨512 + s, by omega⟩) := by
  pointwise [k0_pay20]

theorem pay_tile3 (y : FVec Ideal ⟨2, ![128, 1024]⟩ .bf16) (f : Fin 128) (s : Fin 256) :
    k0_pay1 (F := Ideal) (k0_pay22 y) (ix4 0 0 f s) = y (ix2 f ⟨768 + s, by omega⟩) := by
  pointwise [k0_pay1, k0_pay22]

/-- The ones stored under each key tile. -/
theorem pay_ones (f : Fin 16) (s : Fin 256) : k0_pay17 (F := Ideal) (ix4 0 0 f s) = 1 ∧ k0_pay19 (F := Ideal) (ix4 0 0 f s) = 1
    ∧ k0_pay21 (F := Ideal) (ix4 0 0 f s) = 1 ∧ k0_pay2 (F := Ideal) (ix4 0 0 f s) = 1 := by
  refine ⟨?_, ?_, ?_, ?_⟩ <;> pointwise [k0_pay17, k0_pay19, k0_pay21, k0_pay2]

end Cert.Inproj

end
-- ==== Proof.InprojReference.lean ====
module

public import proofs.«01_k».proof.Proof.Gen.Reference3Ideal.Read
public import proofs.«01_k».proof.Proof.InprojBlock

/-! What the reference's input projection computes, entry by entry. -/

@[expose] public section

namespace Cert.Inproj
open Idealize.ShloMosaic Cert.Rows Cert.Reference3Ideal.Read
set_option maxRecDepth 16384

variable (x0 : FVec Ideal ⟨3, ![8, 2048, 1024]⟩ .f32) (x1 : FVec Ideal ⟨2, ![1024, 5832]⟩ .f32) (x2 : FVec Ideal ⟨1, ![1024]⟩ .f32)
  (x3 x4 : FVec Ideal ⟨1, ![128]⟩ .f32)

/-- Token `s` of sequence `b`, projected on column `n + e` of the input projection. -/
noncomputable def proj (n : Nat) {k : Nat} (h : n + k ≤ 5832) (b : Fin 8) (s : Fin 2048) (e : Fin k) : EReal :=
  lin (fun t => x0 (ix3 b s t)) (fun t => x2 (ix1 t)) fun t => x1 (ix2 t ⟨n + e, by omega⟩)

/-- The factor of the queries, `1 / sqrt 128 * log2 e` as printed. -/
noncomputable def queryScale : EReal := Ideal.ofBits .f32 0x3E0293EE#32

/-- The normalised query of a token, at column `e`, without the factor. -/
noncomputable def queryAt (b : Fin 8) (s : Fin 2048) (e : Fin 1024) : EReal :=
  unitHead (fun j => proj x0 x1 x2 0 (k := 1024) (by omega) b s (headCol e j)) (inHead e) * (x3 (ix1 (inHead e)) * queryScale)

/-- The normalised latent of a token, at column `f`. -/
noncomputable def latentAt (b : Fin 8) (s : Fin 2048) (f : Fin 128) : EReal :=
  unitHead (fun j => proj x0 x1 x2 1024 (k := 128) (by omega) b s j) f * x4 (ix1 f)

/-- The normalised rows. -/
theorem ref_norm (b : Fin 8) (s : Fin 2048) (t : Fin 1024) :
    val_main_v12 (F := Ideal) x0 x2 (ix3 b s t) = rms (fun t => x0 (ix3 b s t)) (fun t => x2 (ix1 t)) t := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

/-- The projection. -/
theorem ref_proj (b : Fin 8) (s : Fin 2048) (e : Fin 5832) :
    val_main_v13 (F := Ideal) x0 x1 x2 (ix3 b s e) = lin (fun t => x0 (ix3 b s t)) (fun t => x2 (ix1 t)) fun t => x1 (ix2 t e) := by
  pointwise [val_main_v13]
  simp only [ref_norm]
  rfl

theorem ref_split (b : Fin 8) (s : Fin 2048) (h : Fin 8) (d : Fin 128) : val_main_v22 (F := Ideal) x0 x1 x2 (ix4 b s h d)
    = proj x0 x1 x2 0 (k := 1024) (by omega) b s ⟨h * 128 + d, by omega⟩ := by
  unfold proj
  simp only [← ref_proj]
  pointwise [val_main_v22, val_main_v14]

/-- The heads' queries. -/
theorem ref_head (b : Fin 8) (s : Fin 2048) (h : Fin 8) (d : Fin 128) : val_main_v37 (F := Ideal) x0 x1 x2 x3 (ix4 b s h d)
    = unitHead (fun j => proj x0 x1 x2 0 (k := 1024) (by omega) b s ⟨h * 128 + j, by omega⟩) d * (x3 (ix1 d) * queryScale) := by
  simp only [← ref_split, ← mul_assoc]
  pointwise [val_main_v37, val_main_v36, val_main_v35, val_main_v34, val_main_v33, val_main_v32, val_main_v31, val_main_v30, val_main_v29,
    val_main_v28, val_main_v27, val_main_v26, val_main_v25, val_main_v24, val_main_v23, val_main_cst_2, val_main_cst_3, val_main_cst_4,
    val_main_cst_5, unitHead, unit, queryScale]

/-- The queries, feature by feature. -/
theorem ref_query (b : Fin 8) (e : Fin 1024) (s : Fin 2048) :
    val_main_v55 (F := Ideal) x0 x1 x2 x3 (ix3 b e s) = queryAt x0 x1 x2 x3 b s e := by
  refine Eq.trans (b := val_main_v37 (F := Ideal) x0 x1 x2 x3 (ix4 b s ⟨e / 128, by omega⟩ ⟨e % 128, by omega⟩)) ?_ ?_
  · pointwise [val_main_v55, val_main_v54, val_main_v53]
  · rw [ref_head]
    simp only [queryAt, headCol, inHead]

theorem ref_latentSplit (b : Fin 8) (s : Fin 2048) (f : Fin 128) : val_main_v15 (F := Ideal) x0 x1 x2 (ix3 b s f)
    = proj x0 x1 x2 1024 (k := 128) (by omega) b s f := by
  unfold proj
  simp only [← ref_proj]
  pointwise [val_main_v15]

/-- The latent. -/
theorem ref_latent (b : Fin 8) (s : Fin 2048) (f : Fin 128) :
    val_main_v50 (F := Ideal) x0 x1 x2 x4 (ix3 b s f) = latentAt x0 x1 x2 x4 b s f := by
  unfold latentAt
  simp only [← ref_latentSplit]
  pointwise [val_main_v50, val_main_v49, val_main_v48, val_main_v47, val_main_v46, val_main_v45, val_main_v44, val_main_v43, val_main_v42,
    val_main_v41, val_main_v40, val_main_v39, val_main_v38, val_main_cst_6, val_main_cst_7, val_main_cst_8, unitHead, unit]

theorem ref_latentRow (b : Fin 8) (s : Fin 2048) (f : Fin 128) :
    val_main_v59 (F := Ideal) x0 x1 x2 x4 (ix3 b s f) = latentAt x0 x1 x2 x4 b s f := by
  rw [← ref_latent]
  pointwise [val_main_v59]

/-- The key tiles. -/
theorem ref_tile (b a : Fin 8) (f : Fin 144) (s : Fin 256) : val_main_v58 (F := Ideal) x0 x1 x2 x4 (ix4 b a f s)
    = if h : f.val < 128 then latentAt x0 x1 x2 x4 b ⟨a * 256 + s, by omega⟩ ⟨f, h⟩ else 1 := by
  simp only [← ref_latent]
  pointwise [val_main_v58, val_main_v57, val_main_v56, val_main_v52, val_main_v51, val_main_cst_9]

/-- The index queries. -/
theorem ref_indexQuery (b : Fin 8) (e : Fin 512) (s : Fin 2048) : val_main_v61 (F := Ideal) x0 x1 x2 (ix3 b e s)
    = proj x0 x1 x2 1152 (k := 512) (by omega) b s e := by
  unfold proj
  simp only [← ref_proj]
  pointwise [val_main_v61, val_main_v60, val_main_v16]

/-- The index weights, and zeros under them. -/
theorem ref_indexWeight (b : Fin 8) (e : Fin 16) (s : Fin 2048) : val_main_v64 (F := Ideal) x0 x1 x2 (ix3 b e s)
    = if h : e.val < 8 then proj x0 x1 x2 1728 (k := 8) (by omega) b s ⟨e, h⟩ else 0 := by
  unfold proj
  simp only [← ref_proj]
  pointwise [val_main_v64, val_main_v63, val_main_v62, val_main_v18, val_main_cst_10]

/-- The index keys. -/
theorem ref_indexKey (b : Fin 8) (s : Fin 2048) (e : Fin 64) : val_main_v65 (F := Ideal) x0 x1 x2 (ix3 b s e)
    = proj x0 x1 x2 1664 (k := 64) (by omega) b s e := by
  unfold proj
  simp only [← ref_proj]
  pointwise [val_main_v65, val_main_v17]

/-- The inputs of the state space. -/
theorem ref_state (b : Fin 8) (s : Fin 2048) (e : Fin 512) : val_main_v19 (F := Ideal) x0 x1 x2 (ix3 b s e)
    = proj x0 x1 x2 1736 (k := 512) (by omega) b s e := by
  unfold proj
  simp only [← ref_proj]
  pointwise [val_main_v19]

end Cert.Inproj

end
-- ==== Proof.InprojReads.lean ====
module

public import proofs.«01_k».proof.Proof.Gen.Kernel3Ideal.Value
public import proofs.«01_k».proof.Proof.InprojReference
public import Idealize.ShloMosaic.Lib.Pipeline.ValueKit

/-! The input projection's blocks, read and written at an index of the argument and result arrays. -/

@[expose] public section

namespace Cert.Inproj
open Cert.Kernel3Ideal Cert.Kernel3Ideal.Gen Idealize.ShloMosaic Idealize.ShloMosaic.TcCoe Cert.Rows
set_option maxRecDepth 16384

variable (m : (ℓ : Loc nD τ sig) → Buf (Elt Ideal) ℓ)

/-- Each window's block index at a grid point: points run over batches, two halves of the rows for each. -/
theorem idx (t : Fin cfg0.N) : win0_0.index t = ![t.val / 2, t.val % 2, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![t.val / 2, 0, t.val % 2] ∧ win0_9.index t = ![t.val / 2, t.val % 2, 0, 0] ∧ win0_10.index t = ![t.val / 2, t.val % 2, 0]
    ∧ win0_11.index t = ![t.val / 2, 0, t.val % 2] ∧ win0_12.index t = ![t.val / 2, 0, t.val % 2] ∧ win0_13.index t = ![t.val / 2, t.val % 2, 0]
    ∧ win0_14.index t = ![t.val / 2, t.val % 2, 0] :=
  (by decide +kernel : ∀ t : Fin grid0.N, win0_0.index t = ![t.val / 2, t.val % 2, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![t.val / 2, 0, t.val % 2] ∧ win0_9.index t = ![t.val / 2, t.val % 2, 0, 0] ∧ win0_10.index t = ![t.val / 2, t.val % 2, 0]
    ∧ win0_11.index t = ![t.val / 2, 0, t.val % 2] ∧ win0_12.index t = ![t.val / 2, 0, t.val % 2] ∧ win0_13.index t = ![t.val / 2, t.val % 2, 0]
    ∧ win0_14.index t = ![t.val / 2, t.val % 2, 0]) t

variable (c : Dev nD) (t : Fin cfg0.N)

/-- The batch of a grid point. -/
def batch : Fin 8 := ⟨t.val / 2, by have := lt_of_lt_of_eq t.isLt (show cfg0.N = 16 from N_0); omega⟩

/-- The token that row `r` of a grid point's block holds. -/
def token (r : Fin 1024) : Fin 2048 := ⟨t.val % 2 * 1024 + r.val, by omega⟩

/-- The key tile that tile `a` of a grid point's block is. -/
def tile (a : Fin 4) : Fin 8 := ⟨t.val % 2 * 4 + a.val, by omega⟩

/-- The queries' gains times their factor. -/
noncomputable def scaled (g : FVec Ideal ⟨1, ![128]⟩ .f32) (d : Fin 128) : EReal := g (ix1 d) * queryScale

theorem read0 (r u : Fin 1024) : iblk m c 0 t (ix3 0 r u) = m ((c : Thread nD τ).loc main_arg0) (ix3 (batch t) (token t r) u) := by
  blk_ext [iblk, V, idx t, batch, token]

theorem read1 (u : Fin 1024) : iblk m c 1 t (ix2 0 u) = m ((c : Thread nD τ).loc main_arg2) (ix1 u) := by
  have E : (win0_1.blk t).view.emb (ix2 (0 : Fin 1) u) = ix2 0 u := by blk_ext [idx t]
  refine (congrArg (V m c main_v18) E).trans ?_
  change shapeCast S1x1024 (m ((c : Thread nD τ).loc main_arg2)) Facts₀.shapeCasts_S1024_S1x1024 _ = _
  pointwise []

theorem read2 (e u : Fin 1024) : iblk m c 2 t (ix2 e u) = m ((c : Thread nD τ).loc main_arg1) (ix2 u ⟨0 + e.val, by omega⟩) := by
  have E : (win0_2.blk t).view.emb (ix2 e u) = ix2 e u := by blk_ext [idx t]
  refine (congrArg (V m c main_v2) E).trans ?_
  change truncf (F := Ideal) .bf16 (extractStridedSlice S1024x1024 ![0, 0] (transpose S5832x1024 [1, 0] (m ((c : Thread nD τ).loc main_arg1))
    Facts₀.transposes_S1024x5832_S5832x1024_1_0) Facts₀.slices_S5832x1024_S1024x1024_0_0) Facts₀.bitsLt_bf16_f32 _ = _
  pointwise []

/-- The 256 rows that hold the latent, the index key and the index weight side by side, zeros under them. -/
theorem read3 (n : Fin 256) (u : Fin 1024) : iblk m c 3 t (ix2 n u)
    = if h : n.val < 128 then m ((c : Thread nD τ).loc main_arg1) (ix2 u ⟨1024 + n.val, by omega⟩)
      else if h : n.val < 192 then m ((c : Thread nD τ).loc main_arg1) (ix2 u ⟨1664 + (n.val - 128), by omega⟩)
      else if h : n.val < 200 then m ((c : Thread nD τ).loc main_arg1) (ix2 u ⟨1728 + (n.val - 192), by omega⟩)
      else (0 : EReal) := by
  have E : (win0_3.blk t).view.emb (ix2 n u) = ix2 n u := by blk_ext [idx t]
  refine (congrArg (V m c main_v14) E).trans ?_
  change pad S256x1024 ![0, 0] ![56, 0] ![0, 0] (concatenate S200x1024 0
    [⟨S128x1024, truncf (F := Ideal) .bf16 (extractStridedSlice S128x1024 ![1024, 0] (transpose S5832x1024 [1, 0] (m ((c : Thread nD τ).loc main_arg1))
      Facts₀.transposes_S1024x5832_S5832x1024_1_0) Facts₀.slices_S5832x1024_S128x1024_1024_0) Facts₀.bitsLt_bf16_f32⟩,
     ⟨S64x1024, truncf (F := Ideal) .bf16 (extractStridedSlice S64x1024 ![1664, 0] (transpose S5832x1024 [1, 0] (m ((c : Thread nD τ).loc main_arg1))
      Facts₀.transposes_S1024x5832_S5832x1024_1_0) Facts₀.slices_S5832x1024_S64x1024_1664_0) Facts₀.bitsLt_bf16_f32⟩,
     ⟨S8x1024, truncf (F := Ideal) .bf16 (extractStridedSlice S8x1024 ![1728, 0] (transpose S5832x1024 [1, 0] (m ((c : Thread nD τ).loc main_arg1))
      Facts₀.transposes_S1024x5832_S5832x1024_1_0) Facts₀.slices_S5832x1024_S8x1024_1728_0) Facts₀.bitsLt_bf16_f32⟩]
    Facts₀.concatenates_S128x1024_S64x1024_S8x1024_S200x1024_d0)
    (sitofp (F := Ideal) .bf16 (constantI S_ 32 0#32)) Facts₀.pads_S200x1024_S256x1024_0560_000 Facts₀.h_S_ _ = _
  have z : FloatOps.sitofp (F := Ideal) .bf16 (0#32 : BitVec 32) = (0 : EReal) := by
    change (((0#32 : BitVec 32).toInt : ℝ) : EReal) = 0
    simp
  pointwise []
  simp only [z, Nat.sub_sub, Nat.reduceAdd]
  by_cases h1 : n.val < 128
  · have h2 : n.val < 200 := by omega
    simp only [h1, h2, dif_pos]
  · by_cases h2 : n.val < 192
    · have h3 : n.val < 200 := by omega
      have h4 : n.val - 128 < 64 := by omega
      simp only [h1, h2, h3, h4, dif_pos, dif_neg, not_false_eq_true]
    · have h4 : ¬ n.val - 128 < 64 := by omega
      simp only [h1, h2, h4, dif_neg, not_false_eq_true]

theorem read4 (e : Fin 512) (u : Fin 1024) : iblk m c 4 t (ix2 e u) = m ((c : Thread nD τ).loc main_arg1) (ix2 u ⟨1152 + e.val, by omega⟩) := by
  have E : (win0_4.blk t).view.emb (ix2 e u) = ix2 e u := by blk_ext [idx t]
  refine (congrArg (V m c main_v6) E).trans ?_
  change truncf (F := Ideal) .bf16 (extractStridedSlice S512x1024 ![1152, 0] (transpose S5832x1024 [1, 0] (m ((c : Thread nD τ).loc main_arg1))
    Facts₀.transposes_S1024x5832_S5832x1024_1_0) Facts₀.slices_S5832x1024_S512x1024_1152_0) Facts₀.bitsLt_bf16_f32 _ = _
  pointwise []

theorem read5 (e : Fin 512) (u : Fin 1024) : iblk m c 5 t (ix2 e u) = m ((c : Thread nD τ).loc main_arg1) (ix2 u ⟨1736 + e.val, by omega⟩) := by
  have E : (win0_5.blk t).view.emb (ix2 e u) = ix2 e u := by blk_ext [idx t]
  refine (congrArg (V m c main_v12) E).trans ?_
  change truncf (F := Ideal) .bf16 (extractStridedSlice S512x1024 ![1736, 0] (transpose S5832x1024 [1, 0] (m ((c : Thread nD τ).loc main_arg1))
    Facts₀.transposes_S1024x5832_S5832x1024_1_0) Facts₀.slices_S5832x1024_S512x1024_1736_0) Facts₀.bitsLt_bf16_f32 _ = _
  pointwise []

theorem read6 (d : Fin 128) : iblk m c 6 t (ix2 d 0) = scaled (m ((c : Thread nD τ).loc main_arg3)) d := by
  have E : (win0_6.blk t).view.emb (ix2 d (0 : Fin 1)) = ix2 d 0 := by blk_ext [idx t]
  refine (congrArg (V m c main_v17) E).trans ?_
  change mulf (F := Ideal) (shapeCast S128x1 (m ((c : Thread nD τ).loc main_arg3)) Facts₀.shapeCasts_S128_S128x1)
    (broadcastInDim S128x1 ![] Facts₀.bcast_S_S128x1 (constant (F := Ideal) S_ .f32 0x3E0293EE#32)) _ = _
  pointwise [queryScale, scaled]

theorem read7 (d : Fin 128) : iblk m c 7 t (ix2 0 d) = m ((c : Thread nD τ).loc main_arg4) (ix1 d) := by
  have E : (win0_7.blk t).view.emb (ix2 (0 : Fin 1) d) = ix2 0 d := by blk_ext [idx t]
  refine (congrArg (V m c main_v19) E).trans ?_
  change shapeCast S1x128 (m ((c : Thread nD τ).loc main_arg4)) Facts₀.shapeCasts_S128_S1x128 _ = _
  pointwise []

theorem write8 (e r : Fin 1024) : (win0_8.blk t).view.emb (ix3 0 e r) = ix3 (batch t) e (token t r) := by
  blk_ext [idx t, batch, token]

theorem write9 (a : Fin 4) (f : Fin 144) (s : Fin 256) : (win0_9.blk t).view.emb (ix4 0 a f s) = ix4 (batch t) (tile t a) f s := by
  blk_ext [idx t, batch, tile]

theorem write10 (r : Fin 1024) (f : Fin 128) : (win0_10.blk t).view.emb (ix3 0 r f) = ix3 (batch t) (token t r) f := by
  blk_ext [idx t, batch, token]

theorem write11 (e : Fin 512) (r : Fin 1024) : (win0_11.blk t).view.emb (ix3 0 e r) = ix3 (batch t) e (token t r) := by
  blk_ext [idx t, batch, token]

theorem write12 (e : Fin 16) (r : Fin 1024) : (win0_12.blk t).view.emb (ix3 0 e r) = ix3 (batch t) e (token t r) := by
  blk_ext [idx t, batch, token]

theorem write13 (r : Fin 1024) (e : Fin 64) : (win0_13.blk t).view.emb (ix3 0 r e) = ix3 (batch t) (token t r) e := by
  blk_ext [idx t, batch, token]

theorem write14 (r : Fin 1024) (e : Fin 512) : (win0_14.blk t).view.emb (ix3 0 r e) = ix3 (batch t) (token t r) e := by
  blk_ext [idx t, batch, token]

end Cert.Inproj

end
-- ==== Proof.InprojTiles.lean ====
module

public import proofs.«01_k».proof.Proof.Gen.Kernel3Ideal.Value
public import Idealize.ShloMosaic.Lib.Pipeline.ValueKit
public import Idealize.ShloMosaic.Lib.Pipeline.ReadBack

/-! The block of key tiles that a grid point stores in eight pieces, read back at an index. -/

@[expose] public section

namespace Cert.Inproj
open Cert.Kernel3Ideal Cert.Kernel3Ideal.Gen Idealize.ShloMosaic Idealize.ShloMosaic.TcCoe
set_option maxRecDepth 16384

/-- `k` rows of tile `n` from row `o` on, as a rectangle of the block. -/
abbrev box (n o k : Nat) (h : ∀ a, (![0, n, o, 0] : Fin 4 → Nat) a + ![1, 1, k, 256] a ≤ S1x4x144x256.size a) : Rect S1x4x144x256 :=
  Rect.unit (s := S1x4x144x256) ![0, n, o, 0] ![1, 1, k, 256] h

theorem box_emb (n o k : Nat) (h) (a : Fin 4) (hn : n = a.1) (g : Fin 144) (f : Fin k) (hg : g.1 = o + f.1) (s : Fin 256) :
    (box n o k h).emb (ix4 0 0 f s) = ix4 0 a g s := by
  subst hn
  funext i
  apply Fin.ext
  rw [Rect.emb_apply]
  fin_cases i
  · simp
  · simp
  · simp [hg]
  · simp

/-- A row of a tile, read where its last write put it, -/
theorem canon_box_on (n o k : Nat) (h) (w : FVec Ideal ⟨4, ![1, 1, k, 256]⟩ .bf16) (L : List (View.Piece (Elt Ideal) S1x4x144x256 .bf16))
    (a : Fin 4) (hn : n = a.1) (g : Fin 144) (f : Fin k) (hg : g.1 = o + f.1) (s : Fin 256) :
    View.canon (⟨box n o k h, w⟩ :: L) (ix4 0 a g s) = w (ix4 0 0 f s) := by
  rw [← box_emb n o k h a hn g f hg s]
  exact View.canon_cons_emb _ _ _ _

/-- and past a write elsewhere. -/
theorem canon_box_off (n o k : Nat) (h) (w : FVec Ideal ⟨4, ![1, 1, k, 256]⟩ .bf16) (L : List (View.Piece (Elt Ideal) S1x4x144x256 .bf16))
    (a : Fin 4) (g : Fin 144) (s : Fin 256) (hne : n ≠ a.1 ∨ g.1 < o ∨ o + k ≤ g.1) :
    View.canon (⟨box n o k h, w⟩ :: L) (ix4 0 a g s) = View.canon L (ix4 0 a g s) := by
  refine View.canon_cons_of_not_mem _ _ fun hm => ?_
  have h1 := (Rect.mem_set_unit (inb := h)).mp hm 1
  have h2 := (Rect.mem_set_unit (inb := h)).mp hm 2
  change n ≤ a.1 ∧ a.1 < n + 1 at h1
  change o ≤ g.1 ∧ g.1 < o + k at h2
  omega

/-- The eight pieces, last first: under each tile's 128 features stand 16 rows of ones. -/
theorem canon_tiles (p0 p1 p2 p3 : FVec Ideal ⟨4, ![1, 1, 128, 256]⟩ .bf16) (o0 o1 o2 o3 : FVec Ideal ⟨4, ![1, 1, 16, 256]⟩ .bf16)
    (h0) (h1) (h2) (h3) (k0) (k1) (k2) (k3) (P : Fin 4 → Fin 128 → Fin 256 → EReal)
    (e0 : ∀ f s, p0 (ix4 0 0 f s) = P 0 f s) (e1 : ∀ f s, p1 (ix4 0 0 f s) = P 1 f s) (e2 : ∀ f s, p2 (ix4 0 0 f s) = P 2 f s)
    (e3 : ∀ f s, p3 (ix4 0 0 f s) = P 3 f s) (q0 : ∀ f s, o0 (ix4 0 0 f s) = (1 : EReal)) (q1 : ∀ f s, o1 (ix4 0 0 f s) = (1 : EReal))
    (q2 : ∀ f s, o2 (ix4 0 0 f s) = (1 : EReal)) (q3 : ∀ f s, o3 (ix4 0 0 f s) = (1 : EReal)) (a : Fin 4) (g : Fin 144) (s : Fin 256) :
    View.canon (Val := Elt Ideal) (e := .bf16) [⟨box 3 128 16 k3, o3⟩, ⟨box 3 0 128 h3, p3⟩, ⟨box 2 128 16 k2, o2⟩, ⟨box 2 0 128 h2, p2⟩,
      ⟨box 1 128 16 k1, o1⟩, ⟨box 1 0 128 h1, p1⟩, ⟨box 0 128 16 k0, o0⟩, ⟨box 0 0 128 h0, p0⟩] (ix4 0 a g s)
      = if h : g.1 < 128 then P a ⟨g.1, h⟩ s else 1 := by
  by_cases hg : g.1 < 128
  · rw [dif_pos hg]
    have eg : g.1 = 0 + (⟨g.1, hg⟩ : Fin 128).1 := (Nat.zero_add _).symm
    match a with
    | 0 =>
      rw [canon_box_off, canon_box_off, canon_box_off, canon_box_off, canon_box_off, canon_box_off, canon_box_off,
        canon_box_on (n := 0) (a := 0) (hn := rfl) (hg := eg), e0] <;> first | exact Or.inl (by decide) | exact Or.inr (Or.inl hg)
    | 1 =>
      rw [canon_box_off, canon_box_off, canon_box_off, canon_box_off, canon_box_off, canon_box_on (n := 1) (a := 1) (hn := rfl) (hg := eg), e1] <;>
        first | exact Or.inl (by decide) | exact Or.inr (Or.inl hg)
    | 2 =>
      rw [canon_box_off, canon_box_off, canon_box_off, canon_box_on (n := 2) (a := 2) (hn := rfl) (hg := eg), e2] <;>
        first | exact Or.inl (by decide) | exact Or.inr (Or.inl hg)
    | 3 => rw [canon_box_off, canon_box_on (n := 3) (a := 3) (hn := rfl) (hg := eg), e3]; exact Or.inr (Or.inl hg)
  · rw [dif_neg hg]
    have eg : g.1 = 128 + (⟨g.1 - 128, by omega⟩ : Fin 16).1 := by simp only; omega
    match a with
    | 0 =>
      rw [canon_box_off, canon_box_off, canon_box_off, canon_box_off, canon_box_off, canon_box_off,
        canon_box_on (n := 0) (a := 0) (hn := rfl) (hg := eg), q0] <;> exact Or.inl (by decide)
    | 1 =>
      rw [canon_box_off, canon_box_off, canon_box_off, canon_box_off, canon_box_on (n := 1) (a := 1) (hn := rfl) (hg := eg), q1] <;>
        exact Or.inl (by decide)
    | 2 => rw [canon_box_off, canon_box_off, canon_box_on (n := 2) (a := 2) (hn := rfl) (hg := eg), q2] <;> exact Or.inl (by decide)
    | 3 => rw [canon_box_on (n := 3) (a := 3) (hn := rfl) (hg := eg), q3]

end Cert.Inproj

end
-- ==== Proof.InprojArray.lean ====
module

public import proofs.«01_k».proof.Proof.InprojReads
public import proofs.«01_k».proof.Proof.InprojTiles

/-! The input projection's seven result arrays after its run, entry by entry. -/

@[expose] public section

namespace Cert.Inproj
open Cert.Kernel3Ideal Cert.Kernel3Ideal.Gen Idealize.ShloMosaic Idealize.ShloMosaic.TcCoe Cert.Rows
set_option maxRecDepth 16384

section Arrays
variable (x0 : FVec Ideal ⟨3, ![8, 2048, 1024]⟩ .f32) (x1 : FVec Ideal ⟨2, ![1024, 5832]⟩ .f32) (x2 : FVec Ideal ⟨1, ![1024]⟩ .f32)
  (x3 x4 : FVec Ideal ⟨1, ![128]⟩ .f32)

/-! The result arrays as functions of the argument arrays. -/

noncomputable def queries : FVec Ideal ⟨3, ![8, 1024, 2048]⟩ .bf16 := fun i => queryAt x0 x1 x2 x3 (i 0) (i 2) (i 1)

noncomputable def tiles : FVec Ideal ⟨4, ![8, 8, 144, 256]⟩ .bf16 := fun i =>
  if h : (i 2).1 < 128 then latentAt x0 x1 x2 x4 (i 0) ⟨(i 1).1 * 256 + (i 3).1, by have := (i 1).2; have := (i 3).2; simp at *; omega⟩ ⟨(i 2).1, h⟩ else 1

noncomputable def latents : FVec Ideal ⟨3, ![8, 2048, 128]⟩ .bf16 := fun i => latentAt x0 x1 x2 x4 (i 0) (i 1) (i 2)

noncomputable def indexQueries : FVec Ideal ⟨3, ![8, 512, 2048]⟩ .bf16 := fun i =>
  proj x0 x1 x2 1152 (k := 512) (by omega) (i 0) (i 2) (i 1)

noncomputable def indexWeights : FVec Ideal ⟨3, ![8, 16, 2048]⟩ .f32 := fun i =>
  if h : (i 1).1 < 8 then proj x0 x1 x2 1728 (k := 8) (by omega) (i 0) (i 2) ⟨(i 1).1, h⟩ else 0

noncomputable def indexKeys : FVec Ideal ⟨3, ![8, 2048, 64]⟩ .bf16 := fun i =>
  proj x0 x1 x2 1664 (k := 64) (by omega) (i 0) (i 1) (i 2)

noncomputable def states : FVec Ideal ⟨3, ![8, 2048, 512]⟩ .f32 := fun i =>
  proj x0 x1 x2 1736 (k := 512) (by omega) (i 0) (i 1) (i 2)

theorem queries_apply (b : Fin 8) (e : Fin 1024) (s : Fin 2048) : queries x0 x1 x2 x3 (ix3 b e s) = queryAt x0 x1 x2 x3 b s e := rfl

theorem tiles_apply (b a : Fin 8) (g : Fin 144) (s : Fin 256) : tiles x0 x1 x2 x4 (ix4 b a g s)
    = if h : g.1 < 128 then latentAt x0 x1 x2 x4 b ⟨a.1 * 256 + s.1, by omega⟩ ⟨g.1, h⟩ else 1 := rfl

theorem latents_apply (b : Fin 8) (s : Fin 2048) (f : Fin 128) : latents x0 x1 x2 x4 (ix3 b s f) = latentAt x0 x1 x2 x4 b s f := rfl

end Arrays

variable (m : (ℓ : Loc nD τ sig) → Buf (Elt Ideal) ℓ)

section Point
variable (c : Dev nD) (t : Fin cfg0.N)

/-- The normalised rows of a grid point's block. -/
theorem norm_at (r k : Fin 1024) : k0_pay5 (F := Ideal) (iblk m c 0 t) (iblk m c 1 t) (ix2 r k)
    = rms (fun u => m ((c : Thread nD τ).loc main_arg0) (ix3 (batch t) (token t r) u)) (fun u => m ((c : Thread nD τ).loc main_arg2) (ix1 u)) k := by
  rw [pay_norm]
  simp only [read0, read1]

/-- A block row's product with a row of the block's operand, if that row is column `n + e` of the input projection. -/
theorem proj_at (n : Nat) {k : Nat} (h : n + k ≤ 5832) (e : Fin k) (r : Fin 1024) (w : Fin 1024 → EReal)
    (hw : ∀ u, w u = m ((c : Thread nD τ).loc main_arg1) (ix2 u ⟨n + e.1, by omega⟩)) :
    ∑ u, k0_pay5 (F := Ideal) (iblk m c 0 t) (iblk m c 1 t) (ix2 r u) * w u
      = proj (m ((c : Thread nD τ).loc main_arg0)) (m ((c : Thread nD τ).loc main_arg1)) (m ((c : Thread nD τ).loc main_arg2)) n h (batch t)
          (token t r) e := by
  unfold proj lin
  exact Finset.sum_congr rfl fun u _ => by rw [norm_at, hw]

theorem query_at (e r : Fin 1024) : k0_pay6 (F := Ideal) (iblk m c 0 t) (iblk m c 1 t) (iblk m c 2 t) (iblk m c 6 t) (ix2 e r)
    = queryAt (m ((c : Thread nD τ).loc main_arg0)) (m ((c : Thread nD τ).loc main_arg1)) (m ((c : Thread nD τ).loc main_arg2))
        (m ((c : Thread nD τ).loc main_arg3)) (batch t) (token t r) e := by
  rw [pay_query, read6]
  refine congrArg₂ (· * ·) (congrArg (unitHead · _) ?_) rfl
  funext j
  exact proj_at m c t 0 (by omega) (headCol e j) r _ fun u => read2 m c t _ u

theorem latent_at (r : Fin 1024) (f : Fin 128) :
    k0_pay12 (F := Ideal) (k0_pay5 (iblk m c 0 t) (iblk m c 1 t)) (iblk m c 3 t) (iblk m c 7 t) (ix2 r f)
    = latentAt (m ((c : Thread nD τ).loc main_arg0)) (m ((c : Thread nD τ).loc main_arg1)) (m ((c : Thread nD τ).loc main_arg2))
        (m ((c : Thread nD τ).loc main_arg4)) (batch t) (token t r) f := by
  rw [pay_latent, read7]
  refine congrArg₂ (· * ·) (congrArg (unitHead · _) ?_) rfl
  funext j
  refine proj_at m c t 1024 (by omega) j r _ fun u => ?_
  rw [read3, dif_pos (show (at256 0 j (by omega)).1 < 128 by simp only [at256]; omega)]
  simp only [at256, Nat.zero_add]

theorem indexKey_at (r : Fin 1024) (e : Fin 64) : k0_pay10 (F := Ideal) (k0_pay5 (iblk m c 0 t) (iblk m c 1 t)) (iblk m c 3 t) (ix3 0 r e)
    = proj (m ((c : Thread nD τ).loc main_arg0)) (m ((c : Thread nD τ).loc main_arg1)) (m ((c : Thread nD τ).loc main_arg2)) 1664 (k := 64)
        (by omega) (batch t) (token t r) e := by
  rw [pay_indexKey]
  refine proj_at m c t 1664 (by omega) e r _ fun u => ?_
  rw [read3, dif_neg (show ¬ (at256 128 e (by omega)).1 < 128 by simp only [at256]; omega),
    dif_pos (show (at256 128 e (by omega)).1 < 192 by simp only [at256]; omega)]
  simp only [at256, Nat.add_sub_cancel_left]

theorem indexWeight_at (e : Fin 16) (r : Fin 1024) : k0_pay11 (F := Ideal) (k0_pay5 (iblk m c 0 t) (iblk m c 1 t)) (iblk m c 3 t) (ix3 0 e r)
    = if h : e.1 < 8 then proj (m ((c : Thread nD τ).loc main_arg0)) (m ((c : Thread nD τ).loc main_arg1)) (m ((c : Thread nD τ).loc main_arg2)) 1728
        (k := 8) (by omega) (batch t) (token t r) ⟨e.1, h⟩ else 0 := by
  rw [pay_indexWeight]
  have n1 : ¬ (at256 192 e (by omega)).1 < 128 := by simp only [at256]; omega
  have n2 : ¬ (at256 192 e (by omega)).1 < 192 := by simp only [at256]; omega
  by_cases he : e.1 < 8
  · rw [dif_pos he]
    refine proj_at m c t 1728 (by omega) (⟨e.1, he⟩ : Fin 8) r _ fun u => ?_
    rw [read3, dif_neg n1, dif_neg n2, dif_pos (show (at256 192 e (by omega)).1 < 200 by simp only [at256]; omega)]
    simp only [at256, Nat.add_sub_cancel_left]
  · rw [dif_neg he]
    refine Finset.sum_eq_zero fun u _ => ?_
    rw [read3, dif_neg n1, dif_neg n2, dif_neg (show ¬ (at256 192 e (by omega)).1 < 200 by simp only [at256]; omega)]
    exact mul_zero _

theorem indexQuery_at (e : Fin 512) (r : Fin 1024) : k0_pay3 (F := Ideal) (k0_pay5 (iblk m c 0 t) (iblk m c 1 t)) (iblk m c 4 t) (ix3 0 e r)
    = proj (m ((c : Thread nD τ).loc main_arg0)) (m ((c : Thread nD τ).loc main_arg1)) (m ((c : Thread nD τ).loc main_arg2)) 1152 (k := 512)
        (by omega) (batch t) (token t r) e := by
  rw [pay_indexQuery]
  exact proj_at m c t 1152 (by omega) e r _ fun u => read4 m c t e u

theorem state_at (r : Fin 1024) (e : Fin 512) : k0_pay4 (F := Ideal) (k0_pay5 (iblk m c 0 t) (iblk m c 1 t)) (iblk m c 5 t) (ix3 0 r e)
    = proj (m ((c : Thread nD τ).loc main_arg0)) (m ((c : Thread nD τ).loc main_arg1)) (m ((c : Thread nD τ).loc main_arg2)) 1736 (k := 512)
        (by omega) (batch t) (token t r) e := by
  rw [pay_state]
  exact proj_at m c t 1736 (by omega) e r _ fun u => read5 m c t e u

end Point

/-! After the run each result array is its function of the arguments. -/

theorem final8 (c : Dev nD) : (dats m 0 c).arrAt 8 cfg0.N
    = queries (m ((c : Thread nD τ).loc main_arg0)) (m ((c : Thread nD τ).loc main_arg1)) (m ((c : Thread nD τ).loc main_arg2))
        (m ((c : Thread nD τ).loc main_arg3)) := by
  refine (dats m 0 c).arrAt_eq_of_covers 8 _ (by decide +kernel) fun t hf y => ?_
  obtain ⟨z, e, r, rfl⟩ : ∃ (z : Fin 1) (e r : Fin 1024), y = ix3 z e r := ⟨y 0, y 1, y 2, eq_ix3 y⟩
  obtain rfl : z = 0 := Subsingleton.elim _ _
  blk_simp
  rw [after0_8]
  unfold outsAt0
  frame_out
  refine ((pay_store _ e r).trans (query_at m c t e r)).trans ?_
  exact (queries_apply _ _ _ _ _ _ _).symm.trans (congrArg _ (write8 t e r).symm)

theorem final9 (c : Dev nD) : (dats m 0 c).arrAt 9 cfg0.N
    = tiles (m ((c : Thread nD τ).loc main_arg0)) (m ((c : Thread nD τ).loc main_arg1)) (m ((c : Thread nD τ).loc main_arg2))
        (m ((c : Thread nD τ).loc main_arg4)) := by
  refine (dats m 0 c).arrAt_eq_of_covers 9 _ (by decide +kernel) fun t hf y => ?_
  obtain ⟨z, a, g, s, rfl⟩ : ∃ (z : Fin 1) (a : Fin 4) (g : Fin 144) (s : Fin 256), y = ix4 z a g s := ⟨y 0, y 1, y 2, y 3, eq_ix4 y⟩
  obtain rfl : z = 0 := Subsingleton.elim _ _
  blk_simp
  rw [after0_9]
  unfold outsAt0
  frame_out
  have W : ∀ (f : Fin 128) (r : Fin 1024), k0_pay14 (F := Ideal) (k0_pay5 (iblk m c 0 t) (iblk m c 1 t)) (iblk m c 3 t) (iblk m c 7 t) (ix2 f r)
      = latentAt (m ((c : Thread nD τ).loc main_arg0)) (m ((c : Thread nD τ).loc main_arg1)) (m ((c : Thread nD τ).loc main_arg2))
        (m ((c : Thread nD τ).loc main_arg4)) (batch t) (token t r) f := fun f r => (pay_latentCol _ _ _ f r).trans (latent_at m c t r f)
  refine (canon_tiles _ _ _ _ _ _ _ _ _ _ _ _ _ _ _ _ (fun a f s => latentAt (m ((c : Thread nD τ).loc main_arg0))
    (m ((c : Thread nD τ).loc main_arg1)) (m ((c : Thread nD τ).loc main_arg2)) (m ((c : Thread nD τ).loc main_arg4)) (batch t)
    (token t ⟨a.1 * 256 + s.1, by omega⟩) f) ?_ ?_ ?_ ?_ (fun f s => (pay_ones f s).1) (fun f s => (pay_ones f s).2.1)
    (fun f s => (pay_ones f s).2.2.1) (fun f s => (pay_ones f s).2.2.2) a g s).trans ?_
  · intro f s
    refine (pay_tile0 _ _ _ f s).trans ((W f _).trans ?_)
    simp
  · intro f s
    exact (pay_tile1 _ f s).trans (W f _)
  · intro f s
    exact (pay_tile2 _ f s).trans (W f _)
  · intro f s
    exact (pay_tile3 _ f s).trans (W f _)
  · refine Eq.trans ?_ (congrArg (tiles _ _ _ _) (write9 t a g s).symm)
    rw [tiles_apply]
    have e : ∀ s : Fin 256, t.1 % 2 * 1024 + (a.1 * 256 + s.1) = (t.1 % 2 * 4 + a.1) * 256 + s.1 := fun s => by omega
    simp only [token, tile, e]

theorem final10 (c : Dev nD) : (dats m 0 c).arrAt 10 cfg0.N
    = latents (m ((c : Thread nD τ).loc main_arg0)) (m ((c : Thread nD τ).loc main_arg1)) (m ((c : Thread nD τ).loc main_arg2))
        (m ((c : Thread nD τ).loc main_arg4)) := by
  refine (dats m 0 c).arrAt_eq_of_covers 10 _ (by decide +kernel) fun t hf y => ?_
  obtain ⟨z, r, f, rfl⟩ : ∃ (z : Fin 1) (r : Fin 1024) (f : Fin 128), y = ix3 z r f := ⟨y 0, y 1, y 2, eq_ix3 y⟩
  obtain rfl : z = 0 := Subsingleton.elim _ _
  blk_simp
  rw [after0_10]
  unfold outsAt0
  frame_out
  refine ((pay_latentRow _ _ _ r f).trans (latent_at m c t r f)).trans ?_
  exact (latents_apply _ _ _ _ _ _ _).symm.trans (congrArg _ (write10 t r f).symm)

theorem final11 (c : Dev nD) : (dats m 0 c).arrAt 11 cfg0.N
    = indexQueries (m ((c : Thread nD τ).loc main_arg0)) (m ((c : Thread nD τ).loc main_arg1)) (m ((c : Thread nD τ).loc main_arg2)) := by
  refine (dats m 0 c).arrAt_eq_of_covers 11 _ (by decide +kernel) fun t hf y => ?_
  obtain ⟨z, e, r, rfl⟩ : ∃ (z : Fin 1) (e : Fin 512) (r : Fin 1024), y = ix3 z e r := ⟨y 0, y 1, y 2, eq_ix3 y⟩
  obtain rfl : z = 0 := Subsingleton.elim _ _
  blk_simp
  rw [after0_11]
  unfold outsAt0
  frame_out
  refine (indexQuery_at m c t e r).trans ?_
  exact Eq.trans rfl (congrArg (indexQueries _ _ _) (write11 t e r).symm)

theorem final12 (c : Dev nD) : (dats m 0 c).arrAt 12 cfg0.N
    = indexWeights (m ((c : Thread nD τ).loc main_arg0)) (m ((c : Thread nD τ).loc main_arg1)) (m ((c : Thread nD τ).loc main_arg2)) := by
  refine (dats m 0 c).arrAt_eq_of_covers 12 _ (by decide +kernel) fun t hf y => ?_
  obtain ⟨z, e, r, rfl⟩ : ∃ (z : Fin 1) (e : Fin 16) (r : Fin 1024), y = ix3 z e r := ⟨y 0, y 1, y 2, eq_ix3 y⟩
  obtain rfl : z = 0 := Subsingleton.elim _ _
  blk_simp
  rw [after0_12]
  unfold outsAt0
  frame_out
  refine (indexWeight_at m c t e r).trans ?_
  exact Eq.trans rfl (congrArg (indexWeights _ _ _) (write12 t e r).symm)

theorem final13 (c : Dev nD) : (dats m 0 c).arrAt 13 cfg0.N
    = indexKeys (m ((c : Thread nD τ).loc main_arg0)) (m ((c : Thread nD τ).loc main_arg1)) (m ((c : Thread nD τ).loc main_arg2)) := by
  refine (dats m 0 c).arrAt_eq_of_covers 13 _ (by decide +kernel) fun t hf y => ?_
  obtain ⟨z, r, e, rfl⟩ : ∃ (z : Fin 1) (r : Fin 1024) (e : Fin 64), y = ix3 z r e := ⟨y 0, y 1, y 2, eq_ix3 y⟩
  obtain rfl : z = 0 := Subsingleton.elim _ _
  blk_simp
  rw [after0_13]
  unfold outsAt0
  frame_out
  refine (indexKey_at m c t r e).trans ?_
  exact Eq.trans rfl (congrArg (indexKeys _ _ _) (write13 t r e).symm)

theorem final14 (c : Dev nD) : (dats m 0 c).arrAt 14 cfg0.N
    = states (m ((c : Thread nD τ).loc main_arg0)) (m ((c : Thread nD τ).loc main_arg1)) (m ((c : Thread nD τ).loc main_arg2)) := by
  refine (dats m 0 c).arrAt_eq_of_covers 14 _ (by decide +kernel) fun t hf y => ?_
  obtain ⟨z, r, e, rfl⟩ : ∃ (z : Fin 1) (r : Fin 1024) (e : Fin 512), y = ix3 z r e := ⟨y 0, y 1, y 2, eq_ix3 y⟩
  obtain rfl : z = 0 := Subsingleton.elim _ _
  blk_simp
  rw [after0_14]
  unfold outsAt0
  frame_out
  refine (state_at m c t r e).trans ?_
  exact Eq.trans rfl (congrArg (states _ _ _) (write14 t r e).symm)

end Cert.Inproj

end
-- ==== Proof.InprojClaims.lean ====
module

public import proofs.«01_k».proof.Defs
public import proofs.«01_k».proof.Proof.InprojArray
public import proofs.«01_k».proof.Proof.Gen.Kernel3.Frame
public import proofs.«01_k».proof.Proof.Gen.Reference3Ideal.Run

/-! The claims about the input projection call. -/

@[expose] public section

set_option maxRecDepth 16384

namespace Cert.Inproj
open Idealize.ShloMosaic Idealize.SL.Sem Cert.Rows

theorem frame : Cert.quiescent_Kernel3 := fun m ρ _ => Cert.Kernel3.Gen.frame m ρ

theorem frame_ideal : Cert.quiescent_Kernel3Ideal := fun m ρ _ => Cert.Kernel3Ideal.Gen.frame m ρ

/-- The reference runs on the host and declares no semaphore. -/
theorem frame_reference : Cert.quiescent_Reference3Ideal := fun m ρ _ =>
  (θ_run Cert.Reference3Ideal.defs _ _).mono
    (fun r h => ⟨fun c => (h c).2.2.2.2.2.2.2, sem_eq_zero_of_no_sems (by decide) r.2⟩) (Cert.Reference3Ideal.Value.run (F := Ideal) m ρ)

theorem preserves : Cert.preserves_Kernel3_Kernel3Ideal := trivial

/-! The reference's seven results are the same functions of its arguments. -/

section Reference
open Cert.Reference3Ideal.Read
variable (x0 : FVec Ideal ⟨3, ![8, 2048, 1024]⟩ .f32) (x1 : FVec Ideal ⟨2, ![1024, 5832]⟩ .f32) (x2 : FVec Ideal ⟨1, ![1024]⟩ .f32)
  (x3 x4 : FVec Ideal ⟨1, ![128]⟩ .f32)

theorem ref_queries : val_main_v55 (F := Ideal) x0 x1 x2 x3 = queries x0 x1 x2 x3 := by
  funext i
  obtain ⟨b, e, s, rfl⟩ : ∃ (b : Fin 8) (e : Fin 1024) (s : Fin 2048), i = ix3 b e s := ⟨i 0, i 1, i 2, eq_ix3 i⟩
  exact ref_query x0 x1 x2 x3 b e s

theorem ref_tiles : val_main_v58 (F := Ideal) x0 x1 x2 x4 = tiles x0 x1 x2 x4 := by
  funext i
  obtain ⟨b, a, g, s, rfl⟩ : ∃ (b : Fin 8) (a : Fin 8) (g : Fin 144) (s : Fin 256), i = ix4 b a g s := ⟨i 0, i 1, i 2, i 3, eq_ix4 i⟩
  exact ref_tile x0 x1 x2 x4 b a g s

theorem ref_latents : val_main_v59 (F := Ideal) x0 x1 x2 x4 = latents x0 x1 x2 x4 := by
  funext i
  obtain ⟨b, s, f, rfl⟩ : ∃ (b : Fin 8) (s : Fin 2048) (f : Fin 128), i = ix3 b s f := ⟨i 0, i 1, i 2, eq_ix3 i⟩
  exact ref_latentRow x0 x1 x2 x4 b s f

theorem ref_indexQueries : val_main_v61 (F := Ideal) x0 x1 x2 = indexQueries x0 x1 x2 := by
  funext i
  obtain ⟨b, e, s, rfl⟩ : ∃ (b : Fin 8) (e : Fin 512) (s : Fin 2048), i = ix3 b e s := ⟨i 0, i 1, i 2, eq_ix3 i⟩
  exact ref_indexQuery x0 x1 x2 b e s

theorem ref_indexWeights : val_main_v64 (F := Ideal) x0 x1 x2 = indexWeights x0 x1 x2 := by
  funext i
  obtain ⟨b, e, s, rfl⟩ : ∃ (b : Fin 8) (e : Fin 16) (s : Fin 2048), i = ix3 b e s := ⟨i 0, i 1, i 2, eq_ix3 i⟩
  exact ref_indexWeight x0 x1 x2 b e s

theorem ref_indexKeys : val_main_v65 (F := Ideal) x0 x1 x2 = indexKeys x0 x1 x2 := by
  funext i
  obtain ⟨b, s, e, rfl⟩ : ∃ (b : Fin 8) (s : Fin 2048) (e : Fin 64), i = ix3 b s e := ⟨i 0, i 1, i 2, eq_ix3 i⟩
  exact ref_indexKey x0 x1 x2 b s e

theorem ref_states : val_main_v19 (F := Ideal) x0 x1 x2 = states x0 x1 x2 := by
  funext i
  obtain ⟨b, s, e, rfl⟩ : ∃ (b : Fin 8) (s : Fin 2048) (e : Fin 512), i = ix3 b s e := ⟨i 0, i 1, i 2, eq_ix3 i⟩
  exact ref_state x0 x1 x2 b s e

end Reference

/-! The values both programs end with, in the kernel's arguments. -/

section Values
variable (m : (ℓ : Loc Cert.Kernel3Ideal.nD Cert.Kernel3Ideal.τ Cert.Kernel3Ideal.sig) → Buf (Elt Ideal) ℓ) (c : Dev Cert.Kernel3Ideal.nD)

noncomputable def value0 :=
  queries (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2))
    (m ((c.tc : Thread Cert.Kernel3Ideal.nD Cert.Kernel3Ideal.τ).loc Cert.Kernel3Ideal.main_arg3))

noncomputable def value1 :=
  tiles (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2))
    (m ((c.tc : Thread Cert.Kernel3Ideal.nD Cert.Kernel3Ideal.τ).loc Cert.Kernel3Ideal.main_arg4))

noncomputable def value2 :=
  latents (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2))
    (m ((c.tc : Thread Cert.Kernel3Ideal.nD Cert.Kernel3Ideal.τ).loc Cert.Kernel3Ideal.main_arg4))

noncomputable def value3 :=
  indexQueries (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2))

noncomputable def value4 :=
  indexWeights (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2))

noncomputable def value5 :=
  indexKeys (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2))

noncomputable def value6 :=
  states (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2))

end Values

/-- The kernel's seven result arrays and the reference's are the same functions of arguments that agree. -/
theorem algebraic : Cert.algebraic_Kernel3Ideal_Reference3Ideal := by
  intro m ρ m' ρ' _ hagree
  refine ⟨value0 m, value1 m, value2 m, value3 m, value4 m, value5 m, value6 m, ?_, ?_⟩
  · refine (θ_run Cert.Kernel3Ideal.defs _ _).mono (fun r h c => ?_) (Cert.Kernel3Ideal.Value.run_blocks (F := Ideal) m ρ)
    obtain ⟨h0, h1, h2, h3, h4, h5, h6, hk⟩ := h c
    exact ⟨h0.trans (final8 m c), h1.trans (final9 m c), h2.trans (final10 m c), h3.trans (final11 m c), h4.trans (final12 m c), h5.trans (final13 m c), h6.trans (final14 m c), hk⟩
  · refine (θ_run Cert.Reference3Ideal.defs _ _).mono (fun r h c => ?_) (Cert.Reference3Ideal.Value.run (F := Ideal) m' ρ')
    obtain ⟨h0, h1, h2, h3, h4, h5, h6, hk⟩ := h c
    obtain ⟨a0, a1, a2, a3, a4⟩ := hagree c
    refine ⟨h0.trans ?_, h1.trans ?_, h2.trans ?_, h3.trans ?_, h4.trans ?_, h5.trans ?_, h6.trans ?_, hk⟩
    · rw [Cert.Reference3Ideal.Read.val_main_v55_eq, a0, a1, a2, a3]
      exact ref_queries _ _ _ _
    · rw [Cert.Reference3Ideal.Read.val_main_v58_eq, a0, a1, a2, a4]
      exact ref_tiles _ _ _ _
    · rw [Cert.Reference3Ideal.Read.val_main_v59_eq, a0, a1, a2, a4]
      exact ref_latents _ _ _ _
    · rw [Cert.Reference3Ideal.Read.val_main_v61_eq, a0, a1, a2]
      exact ref_indexQueries _ _ _
    · rw [Cert.Reference3Ideal.Read.val_main_v64_eq, a0, a1, a2]
      exact ref_indexWeights _ _ _
    · rw [Cert.Reference3Ideal.Read.val_main_v65_eq, a0, a1, a2]
      exact ref_indexKeys _ _ _
    · rw [Cert.Reference3Ideal.Read.val_main_v19_eq, a0, a1, a2]
      exact ref_states _ _ _

end Cert.Inproj

end
-- ==== Proof.ScanClaims.lean ====
module

public import proofs.«01_k».proof.Defs
public import proofs.«01_k».proof.Proof.Gen.Kernel4.Frame

/-! The claim about the state-space scan's call. -/

@[expose] public section

namespace Cert.Scan

/-- The scan terminates without fault, and leaves its arguments unchanged and every semaphore counter at zero. -/
theorem frame : Cert.quiescent_Kernel4 := fun m ρ _ => Cert.Kernel4.Gen.frame m ρ

end Cert.Scan

end
-- ==== Proof.lean ====
/- The certificate's claims, proved: the merge call, the feed-forward call and the input projection, each with its frames, and each equal to its reference; and the frame of the
   state-space scan's call. -/
module

public import proofs.«01_k».proof.Defs
public import proofs.«01_k».proof.Proof.MergeClaims
public import proofs.«01_k».proof.Proof.FfnClaims
public import proofs.«01_k».proof.Proof.InprojClaims
public import proofs.«01_k».proof.Proof.ScanClaims

@[expose] public section

namespace Cert.Proof

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts,
  Cert.Kernel3Ideal.Gen.facts, Cert.Reference3Ideal.Gen.facts, Cert.Kernel4.Gen.facts, Cert.Gains.facts,
  Cert.Merge.frame, Cert.Merge.frame_ideal, Cert.Merge.frame_ideal_pre, Cert.Merge.frame_reference, Cert.Merge.frame_reference_pre,
  Cert.Ffn.frame, Cert.Ffn.frame_ideal, Cert.Ffn.frame_reference,
  Cert.Inproj.frame, Cert.Inproj.frame_ideal, Cert.Inproj.frame_reference, Cert.Scan.frame,
  Cert.Merge.preserves, Cert.Merge.algebraic, Cert.Ffn.preserves, Cert.Ffn.algebraic, Cert.Inproj.preserves, Cert.Inproj.algebraic⟩

end Cert.Proof

end
